-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Short (m : (ℓ : Loc Cert.Short.nD Cert.Short.τ Cert.Short.sig) → Buf (Elt Bits) ℓ) : Prop :=
  True

def Pre_ShortIdeal (m : (ℓ : Loc Cert.ShortIdeal.nD Cert.ShortIdeal.τ Cert.ShortIdeal.sig) → Buf (Elt Ideal) ℓ) : Prop :=
  True

def Pre_ShortRefIdeal (m : (ℓ : Loc Cert.ShortRefIdeal.nD Cert.ShortRefIdeal.τ Cert.ShortRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Short [hShort : Cert.Short.Facts] : Prop :=
  ∀ (m : (ℓ : Loc Cert.Short.nD Cert.Short.τ Cert.Short.sig) → Buf (Elt Bits) ℓ) (g : Dev Cert.Short.nD → PrngReg), Pre_Short m →
    θ_run (Cert.Short.defs (F := Bits)) (onTc (τ := Cert.Short.τ) (Cert.Short.main (F := Bits))) ⟨m, fun _ => 0, g⟩ (fun r => (∀ c : Dev Cert.Short.nD,
      r.2.mem ((c.tc : Thread Cert.Short.nD Cert.Short.τ).loc Cert.Short.main_arg0) = m ((c.tc : Thread Cert.Short.nD Cert.Short.τ).loc Cert.Short.main_arg0)
      ∧ r.2.mem ((c.tc : Thread Cert.Short.nD Cert.Short.τ).loc Cert.Short.main_arg1) = m ((c.tc : Thread Cert.Short.nD Cert.Short.τ).loc Cert.Short.main_arg1)
      ∧ r.2.mem ((c.tc : Thread Cert.Short.nD Cert.Short.τ).loc Cert.Short.main_arg2) = m ((c.tc : Thread Cert.Short.nD Cert.Short.τ).loc Cert.Short.main_arg2))
      ∧ r.2.sem = fun _ => 0)

def quiescent_ShortIdeal [hShortIdeal : Cert.ShortIdeal.Facts] : Prop :=
  ∀ (m : (ℓ : Loc Cert.ShortIdeal.nD Cert.ShortIdeal.τ Cert.ShortIdeal.sig) → Buf (Elt Ideal) ℓ) (g : Dev Cert.ShortIdeal.nD → PrngReg), Pre_ShortIdeal m →
    θ_run (Cert.ShortIdeal.defs (F := Ideal)) (onTc (τ := Cert.ShortIdeal.τ) (Cert.ShortIdeal.main (F := Ideal))) ⟨m, fun _ => 0, g⟩ (fun r => (∀ c : Dev Cert.ShortIdeal.nD,
      r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
      ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
      ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2))
      ∧ r.2.sem = fun _ => 0)

def quiescent_ShortRefIdeal [hShortRefIdeal : Cert.ShortRefIdeal.Facts] : Prop :=
  ∀ (m : (ℓ : Loc Cert.ShortRefIdeal.nD Cert.ShortRefIdeal.τ Cert.ShortRefIdeal.sig) → Buf (Elt Ideal) ℓ) (g : Dev Cert.ShortRefIdeal.nD → PrngReg), Pre_ShortRefIdeal m →
    θ_run (Cert.ShortRefIdeal.defs (F := Ideal)) (onTc (τ := Cert.ShortRefIdeal.τ) (Cert.ShortRefIdeal.main (F := Ideal))) ⟨m, fun _ => 0, g⟩ (fun r => (∀ c : Dev Cert.ShortRefIdeal.nD,
      r.2.mem ((c.tc : Thread Cert.ShortRefIdeal.nD Cert.ShortRefIdeal.τ).loc Cert.ShortRefIdeal.main_arg0) = m ((c.tc : Thread Cert.ShortRefIdeal.nD Cert.ShortRefIdeal.τ).loc Cert.ShortRefIdeal.main_arg0)
      ∧ r.2.mem ((c.tc : Thread Cert.ShortRefIdeal.nD Cert.ShortRefIdeal.τ).loc Cert.ShortRefIdeal.main_arg1) = m ((c.tc : Thread Cert.ShortRefIdeal.nD Cert.ShortRefIdeal.τ).loc Cert.ShortRefIdeal.main_arg1)
      ∧ r.2.mem ((c.tc : Thread Cert.ShortRefIdeal.nD Cert.ShortRefIdeal.τ).loc Cert.ShortRefIdeal.main_arg2) = m ((c.tc : Thread Cert.ShortRefIdeal.nD Cert.ShortRefIdeal.τ).loc Cert.ShortRefIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v83_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v10) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v28) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)) →
    ∃ (v0 : (c : Dev Cert.MergeIdeal.nD) → Buf (Elt Ideal) ((c.tc : Thread Cert.MergeIdeal.nD Cert.MergeIdeal.τ).loc Cert.MergeIdeal.main_v28_0)) (v1 : (c : Dev Cert.MergeIdeal.nD) → Buf (Elt Ideal) ((c.tc : Thread Cert.MergeIdeal.nD Cert.MergeIdeal.τ).loc Cert.MergeIdeal.main_v28_1)) (v2 : (c : Dev Cert.MergeIdeal.nD) → Buf (Elt Ideal) ((c.tc : Thread Cert.MergeIdeal.nD Cert.MergeIdeal.τ).loc Cert.MergeIdeal.main_v28_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v28_0) = v0 c
          ∧ r.2.mem ((c.tc : Thread Cert.MergeIdeal.nD Cert.MergeIdeal.τ).loc Cert.MergeIdeal.main_v28_1) = v1 c
          ∧ r.2.mem ((c.tc : Thread Cert.MergeIdeal.nD Cert.MergeIdeal.τ).loc Cert.MergeIdeal.main_v28_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v89) = v0 c
          ∧ r.2.mem ((c.tc : Thread Cert.MergeRefIdeal.nD Cert.MergeRefIdeal.τ).loc Cert.MergeRefIdeal.main_v78) = v1 c
          ∧ r.2.mem ((c.tc : Thread Cert.MergeRefIdeal.nD Cert.MergeRefIdeal.τ).loc Cert.MergeRefIdeal.main_v88) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Short_ShortIdeal : Prop :=
  True

def algebraic_ShortIdeal_ShortRefIdeal [hShortIdeal : Cert.ShortIdeal.Facts] [hShortRefIdeal : Cert.ShortRefIdeal.Facts] : Prop :=
  ∀ (m : (ℓ : Loc Cert.ShortIdeal.nD Cert.ShortIdeal.τ Cert.ShortIdeal.sig) → Buf (Elt Ideal) ℓ) (g : Dev Cert.ShortIdeal.nD → PrngReg)
    (m' : (ℓ : Loc Cert.ShortRefIdeal.nD Cert.ShortRefIdeal.τ Cert.ShortRefIdeal.sig) → Buf (Elt Ideal) ℓ) (g' : Dev Cert.ShortRefIdeal.nD → PrngReg), Pre_ShortIdeal m →
    (∀ c : Dev Cert.ShortIdeal.nD,
      m' ((c.tc : Thread Cert.ShortRefIdeal.nD Cert.ShortRefIdeal.τ).loc Cert.ShortRefIdeal.main_arg0) = m ((c.tc : Thread Cert.ShortIdeal.nD Cert.ShortIdeal.τ).loc Cert.ShortIdeal.main_arg0)
      ∧ m' ((c.tc : Thread Cert.ShortRefIdeal.nD Cert.ShortRefIdeal.τ).loc Cert.ShortRefIdeal.main_arg1) = m ((c.tc : Thread Cert.ShortIdeal.nD Cert.ShortIdeal.τ).loc Cert.ShortIdeal.main_arg1)
      ∧ m' ((c.tc : Thread Cert.ShortRefIdeal.nD Cert.ShortRefIdeal.τ).loc Cert.ShortRefIdeal.main_arg2) = m ((c.tc : Thread Cert.ShortIdeal.nD Cert.ShortIdeal.τ).loc Cert.ShortIdeal.main_arg2)) →
    ∃ (v0 : (c : Dev Cert.ShortIdeal.nD) → Buf (Elt Ideal) ((c.tc : Thread Cert.ShortIdeal.nD Cert.ShortIdeal.τ).loc Cert.ShortIdeal.main_v3_0)) (v1 : (c : Dev Cert.ShortIdeal.nD) → Buf (Elt Ideal) ((c.tc : Thread Cert.ShortIdeal.nD Cert.ShortIdeal.τ).loc Cert.ShortIdeal.main_v3_1)),
      θ_run (Cert.ShortIdeal.defs (F := Ideal)) (onTc (τ := Cert.ShortIdeal.τ) (Cert.ShortIdeal.main (F := Ideal))) ⟨m, fun _ => 0, g⟩ (fun r => ∀ c : Dev Cert.ShortIdeal.nD,
          r.2.mem ((c.tc : Thread Cert.ShortIdeal.nD Cert.ShortIdeal.τ).loc Cert.ShortIdeal.main_v3_0) = v0 c
          ∧ r.2.mem ((c.tc : Thread Cert.ShortIdeal.nD Cert.ShortIdeal.τ).loc Cert.ShortIdeal.main_v3_1) = v1 c
          ∧ r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
          ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
          ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2))
      ∧ θ_run (Cert.ShortRefIdeal.defs (F := Ideal)) (onTc (τ := Cert.ShortRefIdeal.τ) (Cert.ShortRefIdeal.main (F := Ideal))) ⟨m', fun _ => 0, g'⟩ (fun r => ∀ c : Dev Cert.ShortRefIdeal.nD,
          r.2.mem ((c.tc : Thread Cert.ShortRefIdeal.nD Cert.ShortRefIdeal.τ).loc Cert.ShortRefIdeal.main_v29) = v0 c
          ∧ r.2.mem ((c.tc : Thread Cert.ShortRefIdeal.nD Cert.ShortRefIdeal.τ).loc Cert.ShortRefIdeal.main_v31) = v1 c
          ∧ r.2.mem ((c.tc : Thread Cert.ShortRefIdeal.nD Cert.ShortRefIdeal.τ).loc Cert.ShortRefIdeal.main_arg0) = m' ((c.tc : Thread Cert.ShortRefIdeal.nD Cert.ShortRefIdeal.τ).loc Cert.ShortRefIdeal.main_arg0)
          ∧ r.2.mem ((c.tc : Thread Cert.ShortRefIdeal.nD Cert.ShortRefIdeal.τ).loc Cert.ShortRefIdeal.main_arg1) = m' ((c.tc : Thread Cert.ShortRefIdeal.nD Cert.ShortRefIdeal.τ).loc Cert.ShortRefIdeal.main_arg1)
          ∧ r.2.mem ((c.tc : Thread Cert.ShortRefIdeal.nD Cert.ShortRefIdeal.τ).loc Cert.ShortRefIdeal.main_arg2) = m' ((c.tc : Thread Cert.ShortRefIdeal.nD Cert.ShortRefIdeal.τ).loc Cert.ShortRefIdeal.main_arg2))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hNorm : Cert.Norm.Facts) (hNormIdeal : Cert.NormIdeal.Facts) (hNormRefIdeal : Cert.NormRefIdeal.Facts) (hShort : Cert.Short.Facts) (hShortIdeal : Cert.ShortIdeal.Facts) (hShortRefIdeal : Cert.ShortRefIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Norm (hNorm := hNorm)
    ∧ quiescent_NormIdeal (hNormIdeal := hNormIdeal)
    ∧ quiescent_NormRefIdeal (hNormRefIdeal := hNormRefIdeal)
    ∧ quiescent_Short (hShort := hShort)
    ∧ quiescent_ShortIdeal (hShortIdeal := hShortIdeal)
    ∧ quiescent_ShortRefIdeal (hShortRefIdeal := hShortRefIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Norm_NormIdeal
    ∧ algebraic_NormIdeal_NormRefIdeal (hNormIdeal := hNormIdeal) (hNormRefIdeal := hNormRefIdeal)
    ∧ preserves_Short_ShortIdeal
    ∧ algebraic_ShortIdeal_ShortRefIdeal (hShortIdeal := hShortIdeal) (hShortRefIdeal := hShortRefIdeal)
-- ==== Pre_finite_inputs.lean ====
abbrev S16384x7168 : Shape := ⟨2, ![16384, 7168]⟩
abbrev S2x4 : Shape := ⟨2, ![2, 4]⟩
abbrev S512 : Shape := ⟨1, ![512]⟩
abbrev S4x4x128x128 : Shape := ⟨4, ![4, 4, 128, 128]⟩
abbrev S16384x1536 : Shape := ⟨2, ![16384, 1536]⟩
abbrev S_ : Shape := ⟨0, ![]⟩

class Facts : Prop where
  slices_S16384x7168_S16384x1536_0_0 : S16384x7168.Slices ![0, 0] S16384x1536
  bcast_S_S16384x1536 : S_.BroadcastsInDim S16384x1536 (![] : Fin 0 → Fin S16384x1536.rank)
  bcast_S_S2x4 : S_.BroadcastsInDim S2x4 (![] : Fin 0 → Fin S2x4.rank)

variable [Facts]

def fn {F : FTy → Type} [FloatOps F] (main_arg0 : FVec F S16384x7168 .f32) (main_arg1 : FVec F S2x4 .f32) (main_arg2 : FVec F S512 .f32) (main_arg3 : FVec F S4x4x128x128 .f32) (main_arg4 : FVec F S4x4x128x128 .f32) : IVec S16384x1536 1 × IVec S2x4 1 :=
  let main_v0 : FVec F S16384x1536 .f32 := (extractStridedSlice S16384x1536 ![0, 0] · slices_S16384x7168_S16384x1536_0_0) main_arg0
  let main_v1 : FVec F S16384x1536 .f32 := Host.absf main_v0
  let main_cst : FVec F S_ .f32 := constant S_ .f32 0x7F800000#32
  let main_v2 : FVec F S16384x1536 .f32 := broadcastInDim S16384x1536 ![] bcast_S_S16384x1536 main_cst
  let main_v3 : IVec S16384x1536 1 := cmpf .olt main_v1 main_v2
  let main_v4 : FVec F S2x4 .f32 := Host.absf main_arg1
  let main_cst_0 : FVec F S_ .f32 := constant S_ .f32 0x7F800000#32
  let main_v5 : FVec F S2x4 .f32 := broadcastInDim S2x4 ![] bcast_S_S2x4 main_cst_0
  let main_v6 : IVec S2x4 1 := cmpf .olt main_v4 main_v5
  (main_v3, main_v6)
-- ==== Kernel.lean ====
abbrev S16384x7168 : Shape := ⟨2, ![16384, 7168]⟩
abbrev S2x4 : Shape := ⟨2, ![2, 4]⟩
abbrev S512 : Shape := ⟨1, ![512]⟩
abbrev S4x4x128x128 : Shape := ⟨4, ![4, 4, 128, 128]⟩
abbrev S1x4 : Shape := ⟨2, ![1, 4]⟩
abbrev S4 : Shape := ⟨1, ![4]⟩
abbrev S4x1 : Shape := ⟨2, ![4, 1]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x256x256 : Shape := ⟨3, ![1, 256, 256]⟩
abbrev S_ : Shape := ⟨0, ![]⟩
abbrev S4x1x1 : Shape := ⟨3, ![4, 1, 1]⟩
abbrev S4x256x256 : Shape := ⟨3, ![4, 256, 256]⟩
abbrev S4x256 : Shape := ⟨2, ![4, 256]⟩
abbrev S4x1x256 : Shape := ⟨3, ![4, 1, 256]⟩
abbrev S4x4x256 : Shape := ⟨3, ![4, 4, 256]⟩
abbrev S4x4x256x1 : Shape := ⟨4, ![4, 4, 256, 1]⟩
abbrev S4x4x256x128 : Shape := ⟨4, ![4, 4, 256, 128]⟩
abbrev S4x2x1 : Shape := ⟨3, ![4, 2, 1]⟩
abbrev S4x2x1x1 : Shape := ⟨4, ![4, 2, 1, 1]⟩
abbrev S4x2x8x128 : Shape := ⟨4, ![4, 2, 8, 128]⟩
abbrev S1x512 : Shape := ⟨2, ![1, 512]⟩
abbrev S16384x512 : Shape := ⟨2, ![16384, 512]⟩
abbrev S4096x128 : Shape := ⟨2, ![4096, 128]⟩
abbrev S1x4x256x128 : Shape := ⟨4, ![1, 4, 256, 128]⟩
abbrev S1x2x8x128 : Shape := ⟨4, ![1, 2, 8, 128]⟩
abbrev S1x128 : Shape := ⟨2, ![1, 128]⟩
abbrev S1x1x128x128 : Shape := ⟨4, ![1, 1, 128, 128]⟩
abbrev S16x128x128 : Shape := ⟨3, ![16, 128, 128]⟩
abbrev S1x1x256x128 : Shape := ⟨4, ![1, 1, 256, 128]⟩
abbrev S256x128 : Shape := ⟨2, ![256, 128]⟩
abbrev S1x1x1x128 : Shape := ⟨4, ![1, 1, 1, 128]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 103
  | .vmem => 27
  | .smem => 0
  | _ => 0

abbrev bufTy : (tb : Table) → Fin (tcTables nBuf tb) → BufTy
  | .hbm, ⟨0, _⟩ => ⟨S16384x7168, .f32⟩
  | .hbm, ⟨1, _⟩ => ⟨S2x4, .f32⟩
  | .hbm, ⟨2, _⟩ => ⟨S512, .f32⟩
  | .hbm, ⟨3, _⟩ => ⟨S4x4x128x128, .f32⟩
  | .hbm, ⟨4, _⟩ => ⟨S4x4x128x128, .f32⟩
  | .hbm, ⟨5, _⟩ => ⟨S1x4, .f32⟩
  | .hbm, ⟨6, _⟩ => ⟨S4, .f32⟩
  | .hbm, ⟨7, _⟩ => ⟨S4x1, .f32⟩
  | .hbm, ⟨8, _⟩ => ⟨S1x4, .f32⟩
  | .hbm, ⟨9, _⟩ => ⟨S4, .f32⟩
  | .hbm, ⟨10, _⟩ => ⟨S4x1, .f32⟩
  | .hbm, ⟨11, _⟩ => ⟨S256, .f32⟩
  | .hbm, ⟨12, _⟩ => ⟨S1x256, .f32⟩
  | .hbm, ⟨13, _⟩ => ⟨S256, .f32⟩
  | .hbm, ⟨14, _⟩ => ⟨S256x1, .f32⟩
  | .hbm, ⟨15, _⟩ => ⟨S256, .f32⟩
  | .hbm, ⟨16, _⟩ => ⟨S1x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S1x256x256, .f32⟩
  | .hbm, ⟨21, _⟩ => ⟨S_, .f32⟩
  | .hbm, ⟨22, _⟩ => ⟨S1x256x256, .f32⟩
  | .hbm, ⟨23, _⟩ => ⟨S1x256x256, .i1⟩
  | .hbm, ⟨24, _⟩ => ⟨S4x1x1, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S1x256x256, .f32⟩
  | .hbm, ⟨29, _⟩ => ⟨S4x256x256, .f32⟩
  | .hbm, ⟨30, _⟩ => ⟨S4x256x256, .f32⟩
  | .hbm, ⟨31, _⟩ => ⟨S4x256x256, .f32⟩
  | .hbm, ⟨32, _⟩ => ⟨S4x256x256, .f32⟩
  | .hbm, ⟨33, _⟩ => ⟨S4x1x1, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .f32⟩
  | .hbm, ⟨38, _⟩ => ⟨S1x256x256, .f32⟩
  | .hbm, ⟨39, _⟩ => ⟨S4x256x256, .f32⟩
  | .hbm, ⟨40, _⟩ => ⟨S4x256x256, .f32⟩
  | .hbm, ⟨41, _⟩ => ⟨S4x256x256, .f32⟩
  | .hbm, ⟨42, _⟩ => ⟨S4x256x256, .f32⟩
  | .hbm, ⟨43, _⟩ => ⟨S4x256x256, .i1⟩
  | .hbm, ⟨44, _⟩ => ⟨S4x256x256, .f32⟩
  | .hbm, ⟨45, _⟩ => ⟨S_, .f32⟩
  | .hbm, ⟨46, _⟩ => ⟨S4x256x256, .f32⟩
  | .hbm, ⟨47, _⟩ => ⟨S4x256x256, .f32⟩
  | .hbm, ⟨48, _⟩ => ⟨S_, .f32⟩
  | .hbm, ⟨49, _⟩ => ⟨S1x256, .f32⟩
  | .hbm, ⟨50, _⟩ => ⟨S1x256, .f32⟩
  | .hbm, ⟨51, _⟩ => ⟨S4x256, .f32⟩
  | .hbm, ⟨52, _⟩ => ⟨S4x256, .f32⟩
  | .hbm, ⟨53, _⟩ => ⟨S4x256, .f32⟩
  | .hbm, ⟨54, _⟩ => ⟨S4x256, .f32⟩
  | .hbm, ⟨55, _⟩ => ⟨S_, .f32⟩
  | .hbm, ⟨56, _⟩ => ⟨S4x256, .f32⟩
  | .hbm, ⟨57, _⟩ => ⟨S4x256, .f32⟩
  | .hbm, ⟨58, _⟩ => ⟨S_, .f32⟩
  | .hbm, ⟨59, _⟩ => ⟨S1x256, .f32⟩
  | .hbm, ⟨60, _⟩ => ⟨S1x256, .f32⟩
  | .hbm, ⟨61, _⟩ => ⟨S4x256, .f32⟩
  | .hbm, ⟨62, _⟩ => ⟨S4x256, .f32⟩
  | .hbm, ⟨63, _⟩ => ⟨S4x256, .f32⟩
  | .hbm, ⟨64, _⟩ => ⟨S4x256, .f32⟩
  | .hbm, ⟨65, _⟩ => ⟨S_, .f32⟩
  | .hbm, ⟨66, _⟩ => ⟨S1x256, .f32⟩
  | .hbm, ⟨67, _⟩ => ⟨S1x256, .f32⟩
  | .hbm, ⟨68, _⟩ => ⟨S4x256, .f32⟩
  | .hbm, ⟨69, _⟩ => ⟨S4x256, .f32⟩
  | .hbm, ⟨70, _⟩ => ⟨S4x256, .f32⟩
  | .hbm, ⟨71, _⟩ => ⟨S4x256, .f32⟩
  | .hbm, ⟨72, _⟩ => ⟨S_, .f32⟩
  | .hbm, ⟨73, _⟩ => ⟨S4x256, .f32⟩
  | .hbm, ⟨74, _⟩ => ⟨S4x256, .f32⟩
  | .hbm, ⟨75, _⟩ => ⟨S4x256, .f32⟩
  | .hbm, ⟨76, _⟩ => ⟨S4x256, .f32⟩
  | .hbm, ⟨77, _⟩ => ⟨S4x256, .f32⟩
  | .hbm, ⟨78, _⟩ => ⟨S4x256, .f32⟩
  | .hbm, ⟨79, _⟩ => ⟨S4x1x256, .f32⟩
  | .hbm, ⟨80, _⟩ => ⟨S4x1x256, .f32⟩
  | .hbm, ⟨81, _⟩ => ⟨S4x1x256, .f32⟩
  | .hbm, ⟨82, _⟩ => ⟨S4x1x256, .f32⟩
  | .hbm, ⟨83, _⟩ => ⟨S4x4x256, .f32⟩
  | .hbm, ⟨84, _⟩ => ⟨S4x4x256x1, .f32⟩
  | .hbm, ⟨85, _⟩ => ⟨S4x4x256x128, .f32⟩
  | .hbm, ⟨86, _⟩ => ⟨S_, .f32⟩
  | .hbm, ⟨87, _⟩ => ⟨S4x1, .f32⟩
  | .hbm, ⟨88, _⟩ => ⟨S4x1, .f32⟩
  | .hbm, ⟨89, _⟩ => ⟨S4x1, .f32⟩
  | .hbm, ⟨90, _⟩ => ⟨S_, .f32⟩
  | .hbm, ⟨91, _⟩ => ⟨S4x1, .f32⟩
  | .hbm, ⟨92, _⟩ => ⟨S4x1, .f32⟩
  | .hbm, ⟨93, _⟩ => ⟨S4x1, .f32⟩
  | .hbm, ⟨94, _⟩ => ⟨S4x1x1, .f32⟩
  | .hbm, ⟨95, _⟩ => ⟨S4x1x1, .f32⟩
  | .hbm, ⟨96, _⟩ => ⟨S4x2x1, .f32⟩
  | .hbm, ⟨97, _⟩ => ⟨S4x2x1x1, .f32⟩
  | .hbm, ⟨98, _⟩ => ⟨S4x2x8x128, .f32⟩
  | .hbm, ⟨99, _⟩ => ⟨S1x512, .f32⟩
  | .hbm, ⟨100, _⟩ => ⟨S16384x512, .f32⟩
  | .hbm, ⟨101, _⟩ => ⟨S4x4x128x128, .f32⟩
  | .hbm, ⟨102, _⟩ => ⟨S4x4x128x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S1x256x256, .f32⟩
  | .local _ .vmem, ⟨9, _⟩ => ⟨S1x256x256, .f32⟩
  | .local _ .vmem, ⟨10, _⟩ => ⟨S1x4x256x128, .f32⟩
  | .local _ .vmem, ⟨11, _⟩ => ⟨S1x4x256x128, .f32⟩
  | .local _ .vmem, ⟨12, _⟩ => ⟨S1x2x8x128, .f32⟩
  | .local _ .vmem, ⟨13, _⟩ => ⟨S1x2x8x128, .f32⟩
  | .local _ .vmem, ⟨14, _⟩ => ⟨S1x128, .f32⟩
  | .local _ .vmem, ⟨15, _⟩ => ⟨S1x128, .f32⟩
  | .local _ .vmem, ⟨16, _⟩ => ⟨S1x1x128x128, .f32⟩
  | .local _ .vmem, ⟨17, _⟩ => ⟨S1x1x128x128, .f32⟩
  | .local _ .vmem, ⟨18, _⟩ => ⟨S1x1x128x128, .f32⟩
  | .local _ .vmem, ⟨19, _⟩ => ⟨S1x1x128x128, .f32⟩
  | .local _ .vmem, ⟨20, _⟩ => ⟨S4096x128, .f32⟩
  | .local _ .vmem, ⟨21, _⟩ => ⟨S4096x128, .f32⟩
  | .local _ .vmem, ⟨22, _⟩ => ⟨S1x1x128x128, .f32⟩
  | .local _ .vmem, ⟨23, _⟩ => ⟨S1x1x128x128, .f32⟩
  | .local _ .vmem, ⟨24, _⟩ => ⟨S1x1x128x128, .f32⟩
  | .local _ .vmem, ⟨25, _⟩ => ⟨S1x1x128x128, .f32⟩
  | .local _ .vmem, ⟨26, _⟩ => ⟨S16x128x128, .f32⟩
  | _, _ => ⟨S16384x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_call0_v0 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_8 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_9 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83_0 : Ref sig .tc := ⟨.hbm, 100, rfl⟩
abbrev main_v83_1 : Ref sig .tc := ⟨.hbm, 101, rfl⟩
abbrev main_v83_2 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c16_i32 : BitVec 32 := 16#32
  let v18 : BitVec 32 := Scalar.addi c0_i32 c16_i32
  let c1_i32 : BitVec 32 := 1#32
  ⟨c0_i32, v18, c1_i32⟩
def k0_off1 (k0_t1 : Fin k0_t1_loop.trips) : Fin 3 → Nat :=
  let c15_i32 : BitVec 32 := 15#32
  let c0_i32 : BitVec 32 := 0#32
  let c1_i32 : BitVec 32 := 1#32
  let arg16 : BitVec 32 := Scf.iv c0_i32 c1_i32 k0_t1
  let v30 : BitVec 32 := Scalar.subi c15_i32 arg16
  let v31 : Index := Scalar.indexCast v30
  let c0_46 : Index := 0#32
  let c0_47 : Index := 0#32
  ![v31.toNat, 0, 0]
def k0_mult1 (k0_t1 : Fin k0_t1_loop.trips) : BitVec 32 :=
  let c15_i32 : BitVec 32 := 15#32
  let c0_i32 : BitVec 32 := 0#32
  let c1_i32 : BitVec 32 := 1#32
  let arg16 : BitVec 32 := Scf.iv c0_i32 c1_i32 k0_t1
  let v30 : BitVec 32 := Scalar.subi c15_i32 arg16
  let c256_i32 : BitVec 32 := 256#32
  let v37 : BitVec 32 := Scalar.muli v30 c256_i32
  v37
def k0_off2 (k0_t1 : Fin k0_t1_loop.trips) : Fin 2 → Nat :=
  let c15_i32 : BitVec 32 := 15#32
  let c0_i32 : BitVec 32 := 0#32
  let c1_i32 : BitVec 32 := 1#32
  let arg16 : BitVec 32 := Scf.iv c0_i32 c1_i32 k0_t1
  let v30 : BitVec 32 := Scalar.subi c15_i32 arg16
  let c256_i32 : BitVec 32 := 256#32
  let v37 : BitVec 32 := Scalar.muli v30 c256_i32
  let v38 : BitVec 32 := v37
  let v39 : Index := Scalar.indexCast v38
  let c0_48 : Index := 0#32
  ![v39.toNat, 0]
def k0_mult2 (k0_t1 : Fin k0_t1_loop.trips) : BitVec 32 :=
  let c15_i32 : BitVec 32 := 15#32
  let c0_i32 : BitVec 32 := 0#32
  let c1_i32 : BitVec 32 := 1#32
  let arg16 : BitVec 32 := Scf.iv c0_i32 c1_i32 k0_t1
  let v30 : BitVec 32 := Scalar.subi c15_i32 arg16
  let c256_i32_49 : BitVec 32 := 256#32
  let v41 : BitVec 32 := Scalar.muli v30 c256_i32_49
  v41
@[reducible] def k0_t2_loop : Scf.Loop 32 :=
  let c0_i32_38 : BitVec 32 := 0#32
  let c16_i32_39 : BitVec 32 := 16#32
  let v25 : BitVec 32 := Scalar.addi c0_i32_38 c16_i32_39
  let c1_i32_40 : BitVec 32 := 1#32
  ⟨c0_i32_38, v25, c1_i32_40⟩
def k0_mult3 (k0_t2 : Fin k0_t2_loop.trips) : BitVec 32 :=
  let c0_i32_38 : BitVec 32 := 0#32
  let c1_i32_40 : BitVec 32 := 1#32
  let arg16 : BitVec 32 := Scf.iv c0_i32_38 c1_i32_40 k0_t2
  let c256_i32 : BitVec 32 := 256#32
  let v30 : BitVec 32 := Scalar.muli arg16 c256_i32
  v30
def k0_off3 (k0_t2 : Fin k0_t2_loop.trips) : Fin 2 → Nat :=
  let c0_i32_38 : BitVec 32 := 0#32
  let c1_i32_40 : BitVec 32 := 1#32
  let arg16 : BitVec 32 := Scf.iv c0_i32_38 c1_i32_40 k0_t2
  let c256_i32 : BitVec 32 := 256#32
  let v30 : BitVec 32 := Scalar.muli arg16 c256_i32
  let v31 : BitVec 32 := v30
  let v32 : Index := Scalar.indexCast v31
  let c0_46 : Index := 0#32
  ![v32.toNat, 0]
def k0_mult4 (k0_t2 : Fin k0_t2_loop.trips) : BitVec 32 :=
  let c0_i32_38 : BitVec 32 := 0#32
  let c1_i32_40 : BitVec 32 := 1#32
  let arg16 : BitVec 32 := Scf.iv c0_i32_38 c1_i32_40 k0_t2
  let c256_i32_47 : BitVec 32 := 256#32
  let v34 : BitVec 32 := Scalar.muli arg16 c256_i32_47
  v34
def k0_mult5 (k0_t2 : Fin k0_t2_loop.trips) : BitVec 32 :=
  let c0_i32_38 : BitVec 32 := 0#32
  let c1_i32_40 : BitVec 32 := 1#32
  let arg16 : BitVec 32 := Scf.iv c0_i32_38 c1_i32_40 k0_t2
  let c256_i32_49 : BitVec 32 := 256#32
  let v38 : BitVec 32 := Scalar.muli arg16 c256_i32_49
  v38
def k0_off4 (k0_t2 : Fin k0_t2_loop.trips) : Fin 3 → Nat :=
  let c0_i32_38 : BitVec 32 := 0#32
  let c1_i32_40 : BitVec 32 := 1#32
  let arg16 : BitVec 32 := Scf.iv c0_i32_38 c1_i32_40 k0_t2
  let v56 : Index := Scalar.indexCast arg16
  let c0_53 : Index := 0#32
  let c0_54 : Index := 0#32
  ![v56.toNat, 0, 0]
def k0_mult6 (k0_t2 : Fin k0_t2_loop.trips) : BitVec 32 :=
  let c0_i32_38 : BitVec 32 := 0#32
  let c1_i32_40 : BitVec 32 := 1#32
  let arg16 : BitVec 32 := Scf.iv c0_i32_38 c1_i32_40 k0_t2
  let c256_i32_60 : BitVec 32 := 256#32
  let v73 : BitVec 32 := Scalar.muli arg16 c256_i32_60
  v73
def k0_mult7 (k0_t2 : Fin k0_t2_loop.trips) : BitVec 32 :=
  let c0_i32_38 : BitVec 32 := 0#32
  let c1_i32_40 : BitVec 32 := 1#32
  let arg16 : BitVec 32 := Scf.iv c0_i32_38 c1_i32_40 k0_t2
  let c256_i32_63 : BitVec 32 := 256#32
  let v87 : BitVec 32 := Scalar.muli arg16 c256_i32_63
  v87
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S16384x7168 : Shape := ⟨2, ![16384, 7168]⟩
abbrev S2x4 : Shape := ⟨2, ![2, 4]⟩
abbrev S512 : Shape := ⟨1, ![512]⟩
abbrev S4x4x128x128 : Shape := ⟨4, ![4, 4, 128, 128]⟩
abbrev S4x4096x7168 : Shape := ⟨3, ![4, 4096, 7168]⟩
abbrev S4x4096x512 : Shape := ⟨3, ![4, 4096, 512]⟩
abbrev S4x4096x4x128 : Shape := ⟨4, ![4, 4096, 4, 128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4 : Shape := ⟨2, ![1, 4]⟩
abbrev S4 : Shape := ⟨1, ![4]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S4x4x4096x4096 : Shape := ⟨4, ![4, 4, 4096, 4096]⟩
abbrev S1x4x4096x4096 : Shape := ⟨4, ![1, 4, 4096, 4096]⟩
abbrev S4x4x128x4096 : Shape := ⟨4, ![4, 4, 128, 4096]⟩
abbrev S4096x4 : Shape := ⟨2, ![4096, 4]⟩
abbrev S4096x4x1 : Shape := ⟨3, ![4096, 4, 1]⟩
abbrev S1x4096x4x1 : Shape := ⟨4, ![1, 4096, 4, 1]⟩
abbrev S4x4096x4 : Shape := ⟨3, ![4, 4096, 4]⟩
abbrev S4x4096x4x1 : Shape := ⟨4, ![4, 4096, 4, 1]⟩
abbrev S1x1x512 : Shape := ⟨3, ![1, 1, 512]⟩
abbrev S16384x512 : Shape := ⟨2, ![16384, 512]⟩

abbrev nBuf : Space → Nat
  | .hbm => 143
  | .vmem => 0
  | .smem => 0
  | _ => 0

abbrev hbmTy0_0 (i : Nat) : BufTy := match i % 128 with
  | 0 => ⟨S16384x7168, .f32⟩
  | 1 => ⟨S2x4, .f32⟩
  | 2 => ⟨S512, .f32⟩
  | 3 => ⟨S4x4x128x128, .f32⟩
  | 4 => ⟨S4x4x128x128, .f32⟩
  | 5 => ⟨S4x4096x7168, .f32⟩
  | 6 => ⟨S4x4096x512, .f32⟩
  | 7 => ⟨S4x4096x4x128, .f32⟩
  | 8 => ⟨S_, .f32⟩
  | 9 => ⟨S4x4096x4x128, .f32⟩
  | 10 => ⟨S4x4096x4x128, .f32⟩
  | 11 => ⟨S4x4096x512, .f32⟩
  | 12 => ⟨S4x4096x4x128, .f32⟩
  | 13 => ⟨S4x4096x512, .f32⟩
  | 14 => ⟨S4x4096x4x128, .f32⟩
  | 15 => ⟨S4x4096x512, .f32⟩
  | 16 => ⟨S4096, .f32⟩
  | 17 => ⟨S4096x1, .f32⟩
  | 18 => ⟨S1x4096, .f32⟩
  | 19 => ⟨S4096x4096, .f32⟩
  | 20 => ⟨S4096x4096, .f32⟩
  | 21 => ⟨S4096x4096, .f32⟩
  | 22 => ⟨S1x4, .f32⟩
  | 23 => ⟨S4, .f32⟩
  | 24 => ⟨S1x4, .f32⟩
  | 25 => ⟨S4, .f32⟩
  | 26 => ⟨S_, .f32⟩
  | 27 => ⟨S4096x4096, .f32⟩
  | 28 => ⟨S4096x4096, .i1⟩
  | 29 => ⟨S4x1x1, .f32⟩
  | 30 => ⟨S_, .f32⟩
  | 31 => ⟨S4096x4096, .f32⟩
  | 32 => ⟨S4096x4096, .f32⟩
  | 33 => ⟨S1x4096x4096, .f32⟩
  | 34 => ⟨S4x4096x4096, .f32⟩
  | 35 => ⟨S4x4096x4096, .f32⟩
  | 36 => ⟨S4x4096x4096, .f32⟩
  | 37 => ⟨S4x4096x4096, .f32⟩
  | 38 => ⟨S_, .f32⟩
  | 39 => ⟨S_, .f32⟩
  | 40 => ⟨S4x4096x4096, .i1⟩
  | 41 => ⟨S4x4096x4096, .f32⟩
  | 42 => ⟨S4x4096x4096, .f32⟩
  | 43 => ⟨S_, .f32⟩
  | 44 => ⟨S4096x4096, .f32⟩
  | 45 => ⟨S4096x4096, .i1⟩
  | 46 => ⟨S4x1x1, .f32⟩
  | 47 => ⟨S4096x4096, .f32⟩
  | 48 => ⟨S_, .f32⟩
  | 49 => ⟨S4096x4096, .f32⟩
  | 50 => ⟨S4096x4096, .f32⟩
  | 51 => ⟨S1x4096x4096, .f32⟩
  | 52 => ⟨S4x4096x4096, .f32⟩
  | 53 => ⟨S4x4096x4096, .f32⟩
  | 54 => ⟨S4x4096x4096, .f32⟩
  | 55 => ⟨S4x4096x4096, .f32⟩
  | 56 => ⟨S_, .f32⟩
  | 57 => ⟨S_, .f32⟩
  | 58 => ⟨S4x4096x4096, .i1⟩
  | 59 => ⟨S4x4096x4096, .f32⟩
  | 60 => ⟨S4x4096x4096, .f32⟩
  | 61 => ⟨S4x4x4096x4096, .f32⟩
  | 62 => ⟨S1x4x4096x4096, .f32⟩
  | 63 => ⟨S4x4x4096x4096, .f32⟩
  | 64 => ⟨S4x4x4096x4096, .f32⟩
  | 65 => ⟨S4x4x128x4096, .f32⟩
  | 66 => ⟨S4x4096x4x128, .f32⟩
  | 67 => ⟨S4096x1, .f32⟩
  | 68 => ⟨S_, .f32⟩
  | 69 => ⟨S4096x1, .f32⟩
  | 70 => ⟨S4096x1, .f32⟩
  | 71 => ⟨S1x4, .f32⟩
  | 72 => ⟨S4096x4, .f32⟩
  | 73 => ⟨S4096x4, .f32⟩
  | 74 => ⟨S4096x4, .f32⟩
  | 75 => ⟨S4096x4, .f32⟩
  | 76 => ⟨S4096x4x1, .f32⟩
  | 77 => ⟨S1x4096x4x1, .f32⟩
  | 78 => ⟨S4x4096x4x128, .f32⟩
  | 79 => ⟨S4x4096x4x128, .f32⟩
  | 80 => ⟨S4x4x128x4096, .f32⟩
  | 81 => ⟨S4x4096x4x128, .f32⟩
  | 82 => ⟨S4x4096x4x128, .f32⟩
  | 83 => ⟨S1x4x4096x4096, .f32⟩
  | 84 => ⟨S4x4x4096x4096, .f32⟩
  | 85 => ⟨S4x4x4096x4096, .f32⟩
  | 86 => ⟨S4x4x128x4096, .f32⟩
  | 87 => ⟨S4x4096x4x128, .f32⟩
  | 88 => ⟨S4096x1, .f32⟩
  | 89 => ⟨S_, .f32⟩
  | 90 => ⟨S4096x1, .f32⟩
  | 91 => ⟨S4096x1, .f32⟩
  | 92 => ⟨S1x4, .f32⟩
  | 93 => ⟨S4096x4, .f32⟩
  | 94 => ⟨S4096x4, .f32⟩
  | 95 => ⟨S4096x4, .f32⟩
  | 96 => ⟨S4096x4, .f32⟩
  | 97 => ⟨S4096x4x1, .f32⟩
  | 98 => ⟨S1x4096x4x1, .f32⟩
  | 99 => ⟨S4x4096x4x128, .f32⟩
  | 100 => ⟨S4x4096x4x128, .f32⟩
  | 101 => ⟨S4x4x128x4096, .f32⟩
  | 102 => ⟨S4x4096x4x128, .f32⟩
  | 103 => ⟨S4x4096x4x128, .f32⟩
  | 104 => ⟨S4x4096x4x128, .f32⟩
  | 105 => ⟨S_, .f32⟩
  | 106 => ⟨S4x4096x4, .f32⟩
  | 107 => ⟨S4x4096x4x1, .f32⟩
  | 108 => ⟨S_, .f32⟩
  | 109 => ⟨S4x4096x4x1, .f32⟩
  | 110 => ⟨S4x4096x4x1, .f32⟩
  | 111 => ⟨S4x4096x4x128, .f32⟩
  | 112 => ⟨S4x4096x4x128, .f32⟩
  | 113 => ⟨S4x4096x4x128, .f32⟩
  | 114 => ⟨S_, .f32⟩
  | 115 => ⟨S4x4096x4, .f32⟩
  | 116 => ⟨S4x4096x4x1, .f32⟩
  | 117 => ⟨S_, .f32⟩
  | 118 => ⟨S4x4096x4x1, .f32⟩
  | 119 => ⟨S4x4096x4x1, .f32⟩
  | 120 => ⟨S4x4096x4x128, .f32⟩
  | 121 => ⟨S4x4096x4x128, .f32⟩
  | 122 => ⟨S_, .f32⟩
  | 123 => ⟨S4x4096x4x1, .f32⟩
  | 124 => ⟨S4x4096x4x1, .f32⟩
  | 125 => ⟨S4x4096x4x1, .f32⟩
  | 126 => ⟨S4x4096x4x128, .f32⟩
  | 127 => ⟨S4x4096x4x128, .f32⟩
  | _ => ⟨S16384x7168, .f32⟩

abbrev hbmTy0_1 (i : Nat) : BufTy := match i % 128 with
  | 0 => ⟨S4x4096x512, .f32⟩
  | 1 => ⟨S1x1x512, .f32⟩
  | 2 => ⟨S4x4096x512, .f32⟩
  | 3 => ⟨S4x4096x512, .f32⟩
  | 4 => ⟨S4x4096x512, .f32⟩
  | 5 => ⟨S4x4096x512, .f32⟩
  | 6 => ⟨S_, .f32⟩
  | 7 => ⟨S4x4096x512, .f32⟩
  | 8 => ⟨S4x4096x512, .f32⟩
  | 9 => ⟨S_, .f32⟩
  | 10 => ⟨S4x4096x512, .f32⟩
  | 11 => ⟨S4x4096x512, .f32⟩
  | 12 => ⟨S4x4096x512, .f32⟩
  | 13 => ⟨S4x4096x512, .f32⟩
  | 14 => ⟨S16384x512, .f32⟩
  | _ => ⟨S16384x7168, .f32⟩

abbrev hbmTy (i : Nat) : BufTy := match i / 128 with
  | 0 => hbmTy0_0 i
  | 1 => hbmTy0_1 i
  | _ => ⟨S16384x7168, .f32⟩

abbrev bufTy : (tb : Table) → Fin (tcTables nBuf tb) → BufTy
  | .hbm, ⟨i, _⟩ => hbmTy i
  | _, _ => ⟨S16384x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_7 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_8 : Ref sig .tc := ⟨.hbm, 105, rfl⟩
abbrev main_v85 : Ref sig .tc := ⟨.hbm, 106, rfl⟩
abbrev main_v86 : Ref sig .tc := ⟨.hbm, 107, rfl⟩
abbrev main_cst_9 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_10 : Ref sig .tc := ⟨.hbm, 114, rfl⟩
abbrev main_v92 : Ref sig .tc := ⟨.hbm, 115, rfl⟩
abbrev main_v93 : Ref sig .tc := ⟨.hbm, 116, rfl⟩
abbrev main_cst_11 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_12 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_call2_v0 : Ref sig .tc := ⟨.hbm, 132, rfl⟩
abbrev main_call2_v1 : Ref sig .tc := ⟨.hbm, 133, rfl⟩
abbrev main_call2_cst : Ref sig .tc := ⟨.hbm, 134, rfl⟩
abbrev main_call2_v2 : Ref sig .tc := ⟨.hbm, 135, rfl⟩
abbrev main_call2_v3 : Ref sig .tc := ⟨.hbm, 136, rfl⟩
abbrev main_call2_cst_0 : Ref sig .tc := ⟨.hbm, 137, rfl⟩
abbrev main_call2_v4 : Ref sig .tc := ⟨.hbm, 138, rfl⟩
abbrev main_call2_v5 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩

abbrev nD : Nat := 1
abbrev τ : Topo := Topo.v7x

variable {F : FTy → Type} [FloatOps F]
-- ==== Proj.lean ====
abbrev S16384x1024 : Shape := ⟨2, ![16384, 1024]⟩
abbrev S4x6144 : Shape := ⟨2, ![4, 6144]⟩
abbrev S1024 : Shape := ⟨1, ![1024]⟩
abbrev S1024x7168 : Shape := ⟨2, ![1024, 7168]⟩
abbrev S4x6x1024 : Shape := ⟨3, ![4, 6, 1024]⟩
abbrev S_ : Shape := ⟨0, ![]⟩
abbrev S4x8x1024 : Shape := ⟨3, ![4, 8, 1024]⟩
abbrev S4x3x1024 : Shape := ⟨3, ![4, 3, 1024]⟩
abbrev S1 : Shape := ⟨1, ![1]⟩
abbrev S1x1024 : Shape := ⟨2, ![1, 1024]⟩
abbrev S16384x7168 : Shape := ⟨2, ![16384, 7168]⟩
abbrev S1024x1024 : Shape := ⟨2, ![1024, 1024]⟩
abbrev S1x8x1024 : Shape := ⟨3, ![1, 8, 1024]⟩
abbrev S1024x1 : Shape := ⟨2, ![1024, 1]⟩
abbrev S1x1x1024 : Shape := ⟨3, ![1, 1, 1024]⟩

abbrev nBuf : Space → Nat
  | .hbm => 18
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4x6144, .f32⟩
  | .hbm, ⟨2, _⟩ => ⟨S1024, .f32⟩
  | .hbm, ⟨3, _⟩ => ⟨S1024x7168, .f32⟩
  | .hbm, ⟨4, _⟩ => ⟨S4x6x1024, .f32⟩
  | .hbm, ⟨5, _⟩ => ⟨S_, .f32⟩
  | .hbm, ⟨6, _⟩ => ⟨S4x8x1024, .f32⟩
  | .hbm, ⟨7, _⟩ => ⟨S4x3x1024, .f32⟩
  | .hbm, ⟨8, _⟩ => ⟨S_, .i32⟩
  | .hbm, ⟨9, _⟩ => ⟨S1, .i32⟩
  | .hbm, ⟨10, _⟩ => ⟨S4x8x1024, .f32⟩
  | .hbm, ⟨11, _⟩ => ⟨S4x3x1024, .f32⟩
  | .hbm, ⟨12, _⟩ => ⟨S_, .i32⟩
  | .hbm, ⟨13, _⟩ => ⟨S1, .i32⟩
  | .hbm, ⟨14, _⟩ => ⟨S4x8x1024, .f32⟩
  | .hbm, ⟨15, _⟩ => ⟨S1x1024, .f32⟩
  | .hbm, ⟨16, _⟩ => ⟨S1024x7168, .bf16⟩
  | .hbm, ⟨17, _⟩ => ⟨S16384x7168, .f32⟩
  | .local _ .vmem, ⟨0, _⟩ => ⟨S1024x1024, .f32⟩
  | .local _ .vmem, ⟨1, _⟩ => ⟨S1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjRefIdeal.lean ====
abbrev S16384x1024 : Shape := ⟨2, ![16384, 1024]⟩
abbrev S4x6144 : Shape := ⟨2, ![4, 6144]⟩
abbrev S1024 : Shape := ⟨1, ![1024]⟩
abbrev S1024x7168 : Shape := ⟨2, ![1024, 7168]⟩
abbrev S4x1x6144 : Shape := ⟨3, ![4, 1, 6144]⟩
abbrev S4x1x1024 : Shape := ⟨3, ![4, 1, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x7168 : Shape := ⟨3, ![4, 4096, 7168]⟩
abbrev S16384x7168 : Shape := ⟨2, ![16384, 7168]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x6144, .f32⟩
  | .hbm, ⟨2, _⟩ => ⟨S1024, .f32⟩
  | .hbm, ⟨3, _⟩ => ⟨S1024x7168, .f32⟩
  | .hbm, ⟨4, _⟩ => ⟨S4x1x6144, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x4096x1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x7168, .f32⟩
  | .hbm, ⟨36, _⟩ => ⟨S16384x7168, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Merge.lean ====
abbrev S16384x512 : Shape := ⟨2, ![16384, 512]⟩
abbrev S16384x7168 : Shape := ⟨2, ![16384, 7168]⟩
abbrev S16384x1024 : Shape := ⟨2, ![16384, 1024]⟩
abbrev S4x6144 : Shape := ⟨2, ![4, 6144]⟩
abbrev S512 : Shape := ⟨1, ![512]⟩
abbrev S512x512 : Shape := ⟨2, ![512, 512]⟩
abbrev S3x512x1024 : Shape := ⟨3, ![3, 512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S4x6x1024 : Shape := ⟨3, ![4, 6, 1024]⟩
abbrev S_ : Shape := ⟨0, ![]⟩
abbrev S4x8x1024 : Shape := ⟨3, ![4, 8, 1024]⟩
abbrev S4x3x1024 : Shape := ⟨3, ![4, 3, 1024]⟩
abbrev S1 : Shape := ⟨1, ![1]⟩
abbrev S1024x128 : Shape := ⟨2, ![1024, 128]⟩
abbrev S1x128 : Shape := ⟨2, ![1, 128]⟩
abbrev S2 : Shape := ⟨1, ![2]⟩
abbrev S1x512 : Shape := ⟨2, ![1, 512]⟩
abbrev S1x1024 : Shape := ⟨2, ![1, 1024]⟩
abbrev S16384x128 : Shape := ⟨2, ![16384, 128]⟩
abbrev S256x512 : Shape := ⟨2, ![256, 512]⟩
abbrev S256x1024 : Shape := ⟨2, ![256, 1024]⟩
abbrev S1x8x1024 : Shape := ⟨3, ![1, 8, 1024]⟩
abbrev S256x128 : Shape := ⟨2, ![256, 128]⟩
abbrev S1x512x1024 : Shape := ⟨3, ![1, 512, 1024]⟩
abbrev S512x1024 : Shape := ⟨2, ![512, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 58
  | .vmem => 34
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x7168, .f32⟩
  | .hbm, ⟨3, _⟩ => ⟨S16384x512, .f32⟩
  | .hbm, ⟨4, _⟩ => ⟨S16384x1024, .f32⟩
  | .hbm, ⟨5, _⟩ => ⟨S4x6144, .f32⟩
  | .hbm, ⟨6, _⟩ => ⟨S512, .f32⟩
  | .hbm, ⟨7, _⟩ => ⟨S512x512, .f32⟩
  | .hbm, ⟨8, _⟩ => ⟨S512x512, .f32⟩
  | .hbm, ⟨9, _⟩ => ⟨S3x512x1024, .f32⟩
  | .hbm, ⟨10, _⟩ => ⟨S1024x1024, .f32⟩
  | .hbm, ⟨11, _⟩ => ⟨S1024, .f32⟩
  | .hbm, ⟨12, _⟩ => ⟨S1024x4, .f32⟩
  | .hbm, ⟨13, _⟩ => ⟨S4, .f32⟩
  | .hbm, ⟨14, _⟩ => ⟨S1024x32, .f32⟩
  | .hbm, ⟨15, _⟩ => ⟨S32, .f32⟩
  | .hbm, ⟨16, _⟩ => ⟨S4x6x1024, .f32⟩
  | .hbm, ⟨17, _⟩ => ⟨S_, .f32⟩
  | .hbm, ⟨18, _⟩ => ⟨S4x8x1024, .f32⟩
  | .hbm, ⟨19, _⟩ => ⟨S4x3x1024, .f32⟩
  | .hbm, ⟨20, _⟩ => ⟨S_, .i32⟩
  | .hbm, ⟨21, _⟩ => ⟨S1, .i32⟩
  | .hbm, ⟨22, _⟩ => ⟨S4x8x1024, .f32⟩
  | .hbm, ⟨23, _⟩ => ⟨S4x3x1024, .f32⟩
  | .hbm, ⟨24, _⟩ => ⟨S_, .i32⟩
  | .hbm, ⟨25, _⟩ => ⟨S1, .i32⟩
  | .hbm, ⟨26, _⟩ => ⟨S4x8x1024, .f32⟩
  | .hbm, ⟨27, _⟩ => ⟨S_, .f32⟩
  | .hbm, ⟨28, _⟩ => ⟨S1024x128, .f32⟩
  | .hbm, ⟨29, _⟩ => ⟨S_, .i32⟩
  | .hbm, ⟨30, _⟩ => ⟨S1, .i32⟩
  | .hbm, ⟨31, _⟩ => ⟨S1024x128, .f32⟩
  | .hbm, ⟨32, _⟩ => ⟨S_, .i32⟩
  | .hbm, ⟨33, _⟩ => ⟨S1, .i32⟩
  | .hbm, ⟨34, _⟩ => ⟨S1024x128, .f32⟩
  | .hbm, ⟨35, _⟩ => ⟨S_, .f32⟩
  | .hbm, ⟨36, _⟩ => ⟨S1x128, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S1x128, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S1x128, .f32⟩
  | .hbm, ⟨49, _⟩ => ⟨S1x512, .f32⟩
  | .hbm, ⟨50, _⟩ => ⟨S512x512, .bf16⟩
  | .hbm, ⟨51, _⟩ => ⟨S512x512, .bf16⟩
  | .hbm, ⟨52, _⟩ => ⟨S3x512x1024, .bf16⟩
  | .hbm, ⟨53, _⟩ => ⟨S1024x1024, .bf16⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S16384x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x8x1024, .f32⟩
  | .local _ .vmem, ⟨17, _⟩ => ⟨S1x8x1024, .f32⟩
  | .local _ .vmem, ⟨18, _⟩ => ⟨S1x8x1024, .f32⟩
  | .local _ .vmem, ⟨19, _⟩ => ⟨S1x8x1024, .f32⟩
  | .local _ .vmem, ⟨20, _⟩ => ⟨S1x512, .f32⟩
  | .local _ .vmem, ⟨21, _⟩ => ⟨S512x512, .bf16⟩
  | .local _ .vmem, ⟨22, _⟩ => ⟨S512x512, .bf16⟩
  | .local _ .vmem, ⟨23, _⟩ => ⟨S3x512x1024, .bf16⟩
  | .local _ .vmem, ⟨24, _⟩ => ⟨S1024x1024, .bf16⟩
  | .local _ .vmem, ⟨25, _⟩ => ⟨S1x1024, .f32⟩
  | .local _ .vmem, ⟨26, _⟩ => ⟨S1024x128, .f32⟩
  | .local _ .vmem, ⟨27, _⟩ => ⟨S1x128, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x128, .f32⟩
  | .local _ .vmem, ⟨33, _⟩ => ⟨S256x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_c_3 : Ref sig .tc := ⟨.hbm, 32, rfl⟩
abbrev main_v11 : Ref sig .tc := ⟨.hbm, 33, rfl⟩
abbrev main_v12 : Ref sig .tc := ⟨.hbm, 34, rfl⟩
abbrev main_cst_4 : Ref sig .tc := ⟨.hbm, 35, rfl⟩
abbrev main_v13 : Ref sig .tc := ⟨.hbm, 36, rfl⟩
abbrev main_c_5 : Ref sig .tc := ⟨.hbm, 37, rfl⟩
abbrev main_v14 : Ref sig .tc := ⟨.hbm, 38, rfl⟩
abbrev main_c_6 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_7 : Ref sig .tc := ⟨.hbm, 43, rfl⟩
abbrev main_v18 : Ref sig .tc := ⟨.hbm, 44, rfl⟩
abbrev main_c_8 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28_0 : Ref sig .tc := ⟨.hbm, 55, rfl⟩
abbrev main_v28_1 : Ref sig .tc := ⟨.hbm, 56, rfl⟩
abbrev main_v28_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== MergeRefIdeal.lean ====
abbrev S16384x512 : Shape := ⟨2, ![16384, 512]⟩
abbrev S16384x7168 : Shape := ⟨2, ![16384, 7168]⟩
abbrev S16384x1024 : Shape := ⟨2, ![16384, 1024]⟩
abbrev S4x6144 : Shape := ⟨2, ![4, 6144]⟩
abbrev S512 : Shape := ⟨1, ![512]⟩
abbrev S512x512 : Shape := ⟨2, ![512, 512]⟩
abbrev S3x512x1024 : Shape := ⟨3, ![3, 512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S4x4096x7168 : Shape := ⟨3, ![4, 4096, 7168]⟩
abbrev S4x4096x512 : Shape := ⟨3, ![4, 4096, 512]⟩
abbrev S1x1x512 : Shape := ⟨3, ![1, 1, 512]⟩
abbrev S_ : Shape := ⟨0, ![]⟩
abbrev S4x4096x1x512 : Shape := ⟨4, ![4, 4096, 1, 512]⟩
abbrev S4x4096x3x512 : Shape := ⟨4, ![4, 4096, 3, 512]⟩
abbrev S3x1024x4x4096 : Shape := ⟨4, ![3, 1024, 4, 4096]⟩
abbrev S4x4096x3x1024 : Shape := ⟨4, ![4, 4096, 3, 1024]⟩
abbrev S4x4096x3072 : Shape := ⟨3, ![4, 4096, 3072]⟩
abbrev S4x4096x1024 : Shape := ⟨3, ![4, 4096, 1024]⟩
abbrev S4x1x6144 : Shape := ⟨3, ![4, 1, 6144]⟩
abbrev S4x1x1024 : Shape := ⟨3, ![4, 1, 1024]⟩
abbrev S4x4096 : Shape := ⟨2, ![4, 4096]⟩
abbrev S4x4096x1 : Shape := ⟨3, ![4, 4096, 1]⟩
abbrev S1x1x1024 : Shape := ⟨3, ![1, 1, 1024]⟩
abbrev S16384x4 : Shape := ⟨2, ![16384, 4]⟩
abbrev S1x4 : Shape := ⟨2, ![1, 4]⟩
abbrev S16384x32 : Shape := ⟨2, ![16384, 32]⟩
abbrev S1x32 : Shape := ⟨2, ![1, 32]⟩
abbrev S16384x92 : Shape := ⟨2, ![16384, 92]⟩
abbrev S16384x128 : Shape := ⟨2, ![16384, 128]⟩

abbrev nBuf : Space → Nat
  | .hbm => 120
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x7168, .f32⟩
  | .hbm, ⟨3, _⟩ => ⟨S16384x512, .f32⟩
  | .hbm, ⟨4, _⟩ => ⟨S16384x1024, .f32⟩
  | .hbm, ⟨5, _⟩ => ⟨S4x6144, .f32⟩
  | .hbm, ⟨6, _⟩ => ⟨S512, .f32⟩
  | .hbm, ⟨7, _⟩ => ⟨S512x512, .f32⟩
  | .hbm, ⟨8, _⟩ => ⟨S512x512, .f32⟩
  | .hbm, ⟨9, _⟩ => ⟨S3x512x1024, .f32⟩
  | .hbm, ⟨10, _⟩ => ⟨S1024x1024, .f32⟩
  | .hbm, ⟨11, _⟩ => ⟨S1024, .f32⟩
  | .hbm, ⟨12, _⟩ => ⟨S1024x4, .f32⟩
  | .hbm, ⟨13, _⟩ => ⟨S4, .f32⟩
  | .hbm, ⟨14, _⟩ => ⟨S1024x32, .f32⟩
  | .hbm, ⟨15, _⟩ => ⟨S32, .f32⟩
  | .hbm, ⟨16, _⟩ => ⟨S4x4096x7168, .f32⟩
  | .hbm, ⟨17, _⟩ => ⟨S4x4096x512, .f32⟩
  | .hbm, ⟨18, _⟩ => ⟨S4x4096x512, .f32⟩
  | .hbm, ⟨19, _⟩ => ⟨S1x1x512, .f32⟩
  | .hbm, ⟨20, _⟩ => ⟨S4x4096x512, .f32⟩
  | .hbm, ⟨21, _⟩ => ⟨S4x4096x512, .f32⟩
  | .hbm, ⟨22, _⟩ => ⟨S4x4096x512, .f32⟩
  | .hbm, ⟨23, _⟩ => ⟨S4x4096x512, .f32⟩
  | .hbm, ⟨24, _⟩ => ⟨S4x4096x512, .f32⟩
  | .hbm, ⟨25, _⟩ => ⟨S_, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S_, .f32⟩
  | .hbm, ⟨30, _⟩ => ⟨S4x4096x512, .f32⟩
  | .hbm, ⟨31, _⟩ => ⟨S4x4096x512, .f32⟩
  | .hbm, ⟨32, _⟩ => ⟨S4x4096x512, .f32⟩
  | .hbm, ⟨33, _⟩ => ⟨S_, .f32⟩
  | .hbm, ⟨34, _⟩ => ⟨S4x4096x512, .f32⟩
  | .hbm, ⟨35, _⟩ => ⟨S4x4096x512, .f32⟩
  | .hbm, ⟨36, _⟩ => ⟨S_, .f32⟩
  | .hbm, ⟨37, _⟩ => ⟨S4x4096x512, .f32⟩
  | .hbm, ⟨38, _⟩ => ⟨S4x4096x512, .f32⟩
  | .hbm, ⟨39, _⟩ => ⟨S4x4096x512, .f32⟩
  | .hbm, ⟨40, _⟩ => ⟨S4x4096x512, .f32⟩
  | .hbm, ⟨41, _⟩ => ⟨S4x4096x512, .f32⟩
  | .hbm, ⟨42, _⟩ => ⟨S4x4096x512, .f32⟩
  | .hbm, ⟨43, _⟩ => ⟨S4x4096x512, .f32⟩
  | .hbm, ⟨44, _⟩ => ⟨S_, .f32⟩
  | .hbm, ⟨45, _⟩ => ⟨S4x4096x512, .f32⟩
  | .hbm, ⟨46, _⟩ => ⟨S4x4096x512, .f32⟩
  | .hbm, ⟨47, _⟩ => ⟨S_, .f32⟩
  | .hbm, ⟨48, _⟩ => ⟨S4x4096x512, .f32⟩
  | .hbm, ⟨49, _⟩ => ⟨S4x4096x512, .f32⟩
  | .hbm, ⟨50, _⟩ => ⟨S4x4096x512, .f32⟩
  | .hbm, ⟨51, _⟩ => ⟨S4x4096x512, .f32⟩
  | .hbm, ⟨52, _⟩ => ⟨S4x4096x512, .f32⟩
  | .hbm, ⟨53, _⟩ => ⟨S4x4096x1x512, .f32⟩
  | .hbm, ⟨54, _⟩ => ⟨S4x4096x1x512, .f32⟩
  | .hbm, ⟨55, _⟩ => ⟨S4x4096x1x512, .f32⟩
  | .hbm, ⟨56, _⟩ => ⟨S4x4096x3x512, .f32⟩
  | .hbm, ⟨57, _⟩ => ⟨S3x1024x4x4096, .f32⟩
  | .hbm, ⟨58, _⟩ => ⟨S4x4096x3x1024, .f32⟩
  | .hbm, ⟨59, _⟩ => ⟨S4x4096x3072, .f32⟩
  | .hbm, ⟨60, _⟩ => ⟨S4x4096x3072, .f32⟩
  | .hbm, ⟨61, _⟩ => ⟨S4x4096x3072, .f32⟩
  | .hbm, ⟨62, _⟩ => ⟨S_, .f32⟩
  | .hbm, ⟨63, _⟩ => ⟨S4x4096x3072, .f32⟩
  | .hbm, ⟨64, _⟩ => ⟨S4x4096x3072, .f32⟩
  | .hbm, ⟨65, _⟩ => ⟨S_, .f32⟩
  | .hbm, ⟨66, _⟩ => ⟨S4x4096x3072, .f32⟩
  | .hbm, ⟨67, _⟩ => ⟨S4x4096x3072, .f32⟩
  | .hbm, ⟨68, _⟩ => ⟨S4x4096x3x1024, .f32⟩
  | .hbm, ⟨69, _⟩ => ⟨S4x4096x3x1024, .f32⟩
  | .hbm, ⟨70, _⟩ => ⟨S_, .f32⟩
  | .hbm, ⟨71, _⟩ => ⟨S4x4096x1024, .f32⟩
  | .hbm, ⟨72, _⟩ => ⟨S4x4096x1024, .f32⟩
  | .hbm, ⟨73, _⟩ => ⟨S4x1x6144, .f32⟩
  | .hbm, ⟨74, _⟩ => ⟨S4x1x1024, .f32⟩
  | .hbm, ⟨75, _⟩ => ⟨S4x1x1024, .f32⟩
  | .hbm, ⟨76, _⟩ => ⟨S4x1x1024, .f32⟩
  | .hbm, ⟨77, _⟩ => ⟨S4x1x1024, .f32⟩
  | .hbm, ⟨78, _⟩ => ⟨S4x1x1024, .f32⟩
  | .hbm, ⟨79, _⟩ => ⟨S4x1x1024, .f32⟩
  | .hbm, ⟨80, _⟩ => ⟨S4x4096x1024, .f32⟩
  | .hbm, ⟨81, _⟩ => ⟨S4x4096x1024, .f32⟩
  | .hbm, ⟨82, _⟩ => ⟨S4x4096x1024, .f32⟩
  | .hbm, ⟨83, _⟩ => ⟨S4x4096x1024, .f32⟩
  | .hbm, ⟨84, _⟩ => ⟨S4x4096x1024, .f32⟩
  | .hbm, ⟨85, _⟩ => ⟨S_, .f32⟩
  | .hbm, ⟨86, _⟩ => ⟨S4x4096, .f32⟩
  | .hbm, ⟨87, _⟩ => ⟨S4x4096x1, .f32⟩
  | .hbm, ⟨88, _⟩ => ⟨S_, .f32⟩
  | .hbm, ⟨89, _⟩ => ⟨S4x4096x1, .f32⟩
  | .hbm, ⟨90, _⟩ => ⟨S4x4096x1, .f32⟩
  | .hbm, ⟨91, _⟩ => ⟨S_, .f32⟩
  | .hbm, ⟨92, _⟩ => ⟨S4x4096x1, .f32⟩
  | .hbm, ⟨93, _⟩ => ⟨S4x4096x1, .f32⟩
  | .hbm, ⟨94, _⟩ => ⟨S4x4096x1, .f32⟩
  | .hbm, ⟨95, _⟩ => ⟨S4x4096x1024, .f32⟩
  | .hbm, ⟨96, _⟩ => ⟨S4x4096x1024, .f32⟩
  | .hbm, ⟨97, _⟩ => ⟨S1x1x1024, .f32⟩
  | .hbm, ⟨98, _⟩ => ⟨S4x4096x1024, .f32⟩
  | .hbm, ⟨99, _⟩ => ⟨S4x4096x1024, .f32⟩
  | .hbm, ⟨100, _⟩ => ⟨S_, .f32⟩
  | .hbm, ⟨101, _⟩ => ⟨S4x1x1024, .f32⟩
  | .hbm, ⟨102, _⟩ => ⟨S4x1x1024, .f32⟩
  | .hbm, ⟨103, _⟩ => ⟨S4x4096x1024, .f32⟩
  | .hbm, ⟨104, _⟩ => ⟨S4x4096x1024, .f32⟩
  | .hbm, ⟨105, _⟩ => ⟨S4x4096x1024, .f32⟩
  | .hbm, ⟨106, _⟩ => ⟨S4x4096x1024, .f32⟩
  | .hbm, ⟨107, _⟩ => ⟨S16384x1024, .f32⟩
  | .hbm, ⟨108, _⟩ => ⟨S16384x4, .f32⟩
  | .hbm, ⟨109, _⟩ => ⟨S1x4, .f32⟩
  | .hbm, ⟨110, _⟩ => ⟨S16384x4, .f32⟩
  | .hbm, ⟨111, _⟩ => ⟨S16384x4, .f32⟩
  | .hbm, ⟨112, _⟩ => ⟨S16384x32, .f32⟩
  | .hbm, ⟨113, _⟩ => ⟨S1x32, .f32⟩
  | .hbm, ⟨114, _⟩ => ⟨S16384x32, .f32⟩
  | .hbm, ⟨115, _⟩ => ⟨S16384x32, .f32⟩
  | .hbm, ⟨116, _⟩ => ⟨S_, .f32⟩
  | .hbm, ⟨117, _⟩ => ⟨S16384x92, .f32⟩
  | .hbm, ⟨118, _⟩ => ⟨S16384x128, .f32⟩
  | .hbm, ⟨119, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_v61 : Ref sig .tc := ⟨.hbm, 87, rfl⟩
abbrev main_cst_9 : Ref sig .tc := ⟨.hbm, 88, rfl⟩
abbrev main_v62 : Ref sig .tc := ⟨.hbm, 89, rfl⟩
abbrev main_v63 : Ref sig .tc := ⟨.hbm, 90, rfl⟩
abbrev main_cst_10 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_11 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_12 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]
-- ==== Norm.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x1024 : Shape := ⟨2, ![16384, 1024]⟩
abbrev S1024 : Shape := ⟨1, ![1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x4096x1024, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Short.lean ====
abbrev S16384x7168 : Shape := ⟨2, ![16384, 7168]⟩
abbrev S3x1536 : Shape := ⟨2, ![3, 1536]⟩
abbrev S1536 : Shape := ⟨1, ![1536]⟩
abbrev S1x1536 : Shape := ⟨2, ![1, 1536]⟩
abbrev S_ : Shape := ⟨0, ![]⟩
abbrev S4x1536 : Shape := ⟨2, ![4, 1536]⟩
abbrev S8x1536 : Shape := ⟨2, ![8, 1536]⟩
abbrev S16384x512 : Shape := ⟨2, ![16384, 512]⟩
abbrev S4096x256 : Shape := ⟨2, ![4096, 256]⟩
abbrev S8x256 : Shape := ⟨2, ![8, 256]⟩
abbrev S1x256 : Shape := ⟨2, ![1, 256]⟩

abbrev nBuf : Space → Nat
  | .hbm => 9
  | .vmem => 16
  | .smem => 0
  | _ => 0

abbrev bufTy : (tb : Table) → Fin (tcTables nBuf tb) → BufTy
  | .hbm, ⟨0, _⟩ => ⟨S16384x7168, .f32⟩
  | .hbm, ⟨1, _⟩ => ⟨S3x1536, .f32⟩
  | .hbm, ⟨2, _⟩ => ⟨S1536, .f32⟩
  | .hbm, ⟨3, _⟩ => ⟨S1x1536, .f32⟩
  | .hbm, ⟨4, _⟩ => ⟨S_, .f32⟩
  | .hbm, ⟨5, _⟩ => ⟨S4x1536, .f32⟩
  | .hbm, ⟨6, _⟩ => ⟨S8x1536, .f32⟩
  | .hbm, ⟨7, _⟩ => ⟨S16384x512, .f32⟩
  | .hbm, ⟨8, _⟩ => ⟨S16384x512, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S4096x256, .f32⟩
  | .local _ .vmem, ⟨13, _⟩ => ⟨S4096x256, .f32⟩
  | .local _ .vmem, ⟨14, _⟩ => ⟨S4096x256, .f32⟩
  | .local _ .vmem, ⟨15, _⟩ => ⟨S4096x256, .f32⟩
  | _, _ => ⟨S16384x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ShortRefIdeal.lean ====
abbrev S16384x7168 : Shape := ⟨2, ![16384, 7168]⟩
abbrev S3x1536 : Shape := ⟨2, ![3, 1536]⟩
abbrev S1536 : Shape := ⟨1, ![1536]⟩
abbrev S4x4096x7168 : Shape := ⟨3, ![4, 4096, 7168]⟩
abbrev S4x4096x1536 : Shape := ⟨3, ![4, 4096, 1536]⟩
abbrev S_ : Shape := ⟨0, ![]⟩
abbrev S4x4098x1536 : Shape := ⟨3, ![4, 4098, 1536]⟩
abbrev S1x1536 : Shape := ⟨2, ![1, 1536]⟩
abbrev S1x1x1536 : Shape := ⟨3, ![1, 1, 1536]⟩
abbrev S4x4096x512 : Shape := ⟨3, ![4, 4096, 512]⟩
abbrev S16384x512 : Shape := ⟨2, ![16384, 512]⟩

abbrev nBuf : Space → Nat
  | .hbm => 37
  | .vmem => 0
  | .smem => 0
  | _ => 0

abbrev bufTy : (tb : Table) → Fin (tcTables nBuf tb) → BufTy
  | .hbm, ⟨0, _⟩ => ⟨S16384x7168, .f32⟩
  | .hbm, ⟨1, _⟩ => ⟨S3x1536, .f32⟩
  | .hbm, ⟨2, _⟩ => ⟨S1536, .f32⟩
  | .hbm, ⟨3, _⟩ => ⟨S4x4096x7168, .f32⟩
  | .hbm, ⟨4, _⟩ => ⟨S4x4096x1536, .f32⟩
  | .hbm, ⟨5, _⟩ => ⟨S_, .i32⟩
  | .hbm, ⟨6, _⟩ => ⟨S_, .f32⟩
  | .hbm, ⟨7, _⟩ => ⟨S4x4098x1536, .f32⟩
  | .hbm, ⟨8, _⟩ => ⟨S4x4096x1536, .f32⟩
  | .hbm, ⟨9, _⟩ => ⟨S1x1536, .f32⟩
  | .hbm, ⟨10, _⟩ => ⟨S1536, .f32⟩
  | .hbm, ⟨11, _⟩ => ⟨S1x1x1536, .f32⟩
  | .hbm, ⟨12, _⟩ => ⟨S4x4096x1536, .f32⟩
  | .hbm, ⟨13, _⟩ => ⟨S4x4096x1536, .f32⟩
  | .hbm, ⟨14, _⟩ => ⟨S4x4096x1536, .f32⟩
  | .hbm, ⟨15, _⟩ => ⟨S1x1536, .f32⟩
  | .hbm, ⟨16, _⟩ => ⟨S1536, .f32⟩
  | .hbm, ⟨17, _⟩ => ⟨S1x1x1536, .f32⟩
  | .hbm, ⟨18, _⟩ => ⟨S4x4096x1536, .f32⟩
  | .hbm, ⟨19, _⟩ => ⟨S4x4096x1536, .f32⟩
  | .hbm, ⟨20, _⟩ => ⟨S4x4096x1536, .f32⟩
  | .hbm, ⟨21, _⟩ => ⟨S4x4096x1536, .f32⟩
  | .hbm, ⟨22, _⟩ => ⟨S1x1536, .f32⟩
  | .hbm, ⟨23, _⟩ => ⟨S1536, .f32⟩
  | .hbm, ⟨24, _⟩ => ⟨S1x1x1536, .f32⟩
  | .hbm, ⟨25, _⟩ => ⟨S4x4096x1536, .f32⟩
  | .hbm, ⟨26, _⟩ => ⟨S4x4096x1536, .f32⟩
  | .hbm, ⟨27, _⟩ => ⟨S4x4096x1536, .f32⟩
  | .hbm, ⟨28, _⟩ => ⟨S1x1x1536, .f32⟩
  | .hbm, ⟨29, _⟩ => ⟨S4x4096x1536, .f32⟩
  | .hbm, ⟨30, _⟩ => ⟨S4x4096x1536, .f32⟩
  | .hbm, ⟨31, _⟩ => ⟨S4x4096x512, .f32⟩
  | .hbm, ⟨32, _⟩ => ⟨S4x4096x512, .f32⟩
  | .hbm, ⟨33, _⟩ => ⟨S4x4096x512, .f32⟩
  | .hbm, ⟨34, _⟩ => ⟨S16384x512, .f32⟩
  | .hbm, ⟨35, _⟩ => ⟨S4x4096x512, .f32⟩
  | .hbm, ⟨36, _⟩ => ⟨S16384x512, .f32⟩
  | _, _ => ⟨S16384x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Proof.RetRun.lean ====
/-
  The retention body's run at one grid point. The body goes backwards over the sixteen chunks storing each chunk's state in
  its scratch, then forwards reading those states back. The stores of the first loop cover the scratch, so what the second
  loop reads does not depend on what the scratch held before (`states_cover`), and the stores of both loops name the outputs.
-/
module

public import proofs.«01_k».proof.Proof.Gen.KernelIdeal.Frame.Runs

@[expose] public section

set_option maxRecDepth 16384

noncomputable section

namespace Cert.KernelIdeal.Ret

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a whole buffer holds after listed stores that together cover it does not depend on what it held before. -/
theorem writes_eq_junk_of_cover {Val : EltTy → Type} [∀ e, Nonempty (Val e)] {κ : Kind} {sp : Space} {s : Shape} {e : EltTy}
    {M : Memref sig κ sp s e} (hw : M.IsWhole) (f : M.view.ty.Contents Val) (L : List (View.Piece Val s e))
    (h : ∀ y : s.Idx, ∃ p ∈ L, y ∈ p.1.set) : M.view.writes Val f L = M.view.writes Val M.view.junk L := by
  obtain ⟨b, rfl, rfl, rfl, hb⟩ := hw
  cases hb
  exact funext fun y => View.read_writes_apply_eq (View.whole b) f (View.whole b) (View.whole b).junk y L (h y)

/-- The backward loop stores every chunk's state: after its sixteen trips the scratch is what those trips stored. -/
theorem states_cover (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x256x256 .f32) (harg6 : arg6.IsWhole) (arg7 : Memref sig .tc .vmem S1x4x256x128 .f32) (harg7 : arg7.IsWhole) (arg8 : Memref sig .tc .vmem S1x2x8x128 .f32) (harg8 : arg8.IsWhole) (arg9 : Memref sig .tc .vmem S1x128 .f32) (harg9 : arg9.IsWhole) (arg10 : Memref sig .tc .vmem S1x1x128x128 .f32) (harg10 : arg10.IsWhole) (arg11 : Memref sig .tc .vmem S1x1x128x128 .f32) (harg11 : arg11.IsWhole) (arg12 : Memref sig .tc .vmem S4096x128 .f32) (harg12 : arg12.IsWhole) (arg13 : Memref sig .tc .vmem S1x1x128x128 .f32) (harg13 : arg13.IsWhole) (arg14 : Memref sig .tc .vmem S1x1x128x128 .f32) (harg14 : arg14.IsWhole) (arg15 : Memref sig .tc .vmem S16x128x128 .f32) (harg15 : arg15.IsWhole)
    (f : BufTy.Contents (Elt F) arg15.view.ty) (v8 : Vec F S1x1x256x128 .f32) (v12 : Vec F S1x1x1x128 .f32)
    (X3 : BufTy.Contents (Elt F) arg3.view.ty) (X4 : BufTy.Contents (Elt F) arg4.view.ty) (init : FVec F S128x128 .f32) :
    arg15.view.writes (Elt F) f (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 v8 v12 X3 X4 init
        (Scf.trips k0_t1_loop.lb k0_t1_loop.ub k0_t1_loop.st)).2
      = arg15.view.writes (Elt F) arg15.view.junk (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 v8 v12 X3 X4 init
        (Scf.trips k0_t1_loop.lb k0_t1_loop.ub k0_t1_loop.st)).2 :=
  writes_eq_junk_of_cover harg15 f _ fun y =>
    View.cover_of_tiledL (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 v8 v12 X3 X4 init
        (Scf.trips k0_t1_loop.lb k0_t1_loop.ub k0_t1_loop.st)).2 S1x128x128.size (by sl_kernel_rfl) y

set_option maxHeartbeats 1000000 in
/-- What the body's stores leave in each output's buffer, as pieces (last first), with the body's triple: on whole buffers, the
    inputs' at their contents and the outputs' and the scratch at anything, the body ends with the inputs' as they were, the
    scratch at some contents and each output's buffer with its pieces written. -/
noncomputable def kernelRun0_A (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x256x256 .f32) (harg6 : arg6.IsWhole) (arg7 : Memref sig .tc .vmem S1x4x256x128 .f32) (harg7 : arg7.IsWhole) (arg8 : Memref sig .tc .vmem S1x2x8x128 .f32) (harg8 : arg8.IsWhole) (arg9 : Memref sig .tc .vmem S1x128 .f32) (harg9 : arg9.IsWhole) (arg10 : Memref sig .tc .vmem S1x1x128x128 .f32) (harg10 : arg10.IsWhole) (arg11 : Memref sig .tc .vmem S1x1x128x128 .f32) (harg11 : arg11.IsWhole) (arg12 : Memref sig .tc .vmem S4096x128 .f32) (harg12 : arg12.IsWhole) (arg13 : Memref sig .tc .vmem S1x1x128x128 .f32) (harg13 : arg13.IsWhole) (arg14 : Memref sig .tc .vmem S1x1x128x128 .f32) (harg14 : arg14.IsWhole) (arg15 : Memref sig .tc .vmem S16x128x128 .f32) (harg15 : arg15.IsWhole)
    (x0 : Vec F S4096x128 .f32) (x1 : Vec F S4096x128 .f32) (x2 : Vec F S4096x128 .f32) (x3 : Vec F S4096x128 .f32) (x4 : Vec F S1x256x256 .f32) (x5 : Vec F S1x4x256x128 .f32) (x6 : Vec F S1x2x8x128 .f32) (x7 : Vec F S1x128 .f32) (x8 : Vec F S1x1x128x128 .f32) (x9 : Vec F S1x1x128x128 .f32) :
    Σ' (L10 : List (View.Piece (Elt F) S4096x128 .f32)), Σ' (L11 : List (View.Piece (Elt F) S1x1x128x128 .f32)), { L12 : List (View.Piece (Elt F) S1x1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ d, owns (c : Thread nD τ) arg15 fullShare d)) -∗ K ⟨⟩))
          ⊢ wp frame (wpE (defs₀ (F := F)) Variants.none c none) E (cc0__ret_body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0__ret_body_eq_skeleton]; unfold cc0__ret_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    rw [states_cover c i arg2 harg2 arg3 harg3 arg4 harg4 arg5 harg5 arg6 harg6 arg7 harg7 arg8 harg8 arg9 harg9 arg10 harg10 arg11 harg11 arg12 harg12 arg13 harg13 arg14 harg14 arg15 harg15]
    isplitl [H10]; · iexists _; iexact H10
    isplitl [H11]; · iexists _; iexact H11
    isplitl [H12]; · iexists _; iexact H12
    iexists _, _; isplitr; swap; · iexact HS0
    ipureintro; rfl

end Cert.KernelIdeal.Ret

end
-- ==== Proof.RetFrame.lean ====
/-
  The retention call's frame: what each output's staging buffer holds after every grid point, the proof data of the pipeline,
  the body obligation, the run and the frame.
-/
module

public import proofs.«01_k».proof.Proof.RetRun
public import Idealize.ShloMosaic.Lib.Claim

@[expose] public section

set_option maxRecDepth 16384

noncomputable section

namespace Cert.KernelIdeal.Ret

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores to output 10 — 16 of `S256x128` — cover its block. -/
theorem cover0_A_10 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x256x256 .f32) (harg6 : arg6.IsWhole) (arg7 : Memref sig .tc .vmem S1x4x256x128 .f32) (harg7 : arg7.IsWhole) (arg8 : Memref sig .tc .vmem S1x2x8x128 .f32) (harg8 : arg8.IsWhole) (arg9 : Memref sig .tc .vmem S1x128 .f32) (harg9 : arg9.IsWhole) (arg10 : Memref sig .tc .vmem S1x1x128x128 .f32) (harg10 : arg10.IsWhole) (arg11 : Memref sig .tc .vmem S1x1x128x128 .f32) (harg11 : arg11.IsWhole) (arg12 : Memref sig .tc .vmem S4096x128 .f32) (harg12 : arg12.IsWhole) (arg13 : Memref sig .tc .vmem S1x1x128x128 .f32) (harg13 : arg13.IsWhole) (arg14 : Memref sig .tc .vmem S1x1x128x128 .f32) (harg14 : arg14.IsWhole) (arg15 : Memref sig .tc .vmem S16x128x128 .f32) (harg15 : arg15.IsWhole)
    (x0 : Vec F S4096x128 .f32) (x1 : Vec F S4096x128 .f32) (x2 : Vec F S4096x128 .f32) (x3 : Vec F S4096x128 .f32) (x4 : Vec F S1x256x256 .f32) (x5 : Vec F S1x4x256x128 .f32) (x6 : Vec F S1x2x8x128 .f32) (x7 : Vec F S1x128 .f32) (x8 : Vec F S1x1x128x128 .f32) (x9 : Vec F S1x1x128x128 .f32) (y : S4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).1 S256x128.size (by sl_kernel_rfl) y

/-- What the body leaves in output 10's block. -/
def out0_A_10 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x256x256 .f32) (harg6 : arg6.IsWhole) (arg7 : Memref sig .tc .vmem S1x4x256x128 .f32) (harg7 : arg7.IsWhole) (arg8 : Memref sig .tc .vmem S1x2x8x128 .f32) (harg8 : arg8.IsWhole) (arg9 : Memref sig .tc .vmem S1x128 .f32) (harg9 : arg9.IsWhole) (arg10 : Memref sig .tc .vmem S1x1x128x128 .f32) (harg10 : arg10.IsWhole) (arg11 : Memref sig .tc .vmem S1x1x128x128 .f32) (harg11 : arg11.IsWhole) (arg12 : Memref sig .tc .vmem S4096x128 .f32) (harg12 : arg12.IsWhole) (arg13 : Memref sig .tc .vmem S1x1x128x128 .f32) (harg13 : arg13.IsWhole) (arg14 : Memref sig .tc .vmem S1x1x128x128 .f32) (harg14 : arg14.IsWhole) (arg15 : Memref sig .tc .vmem S16x128x128 .f32) (harg15 : arg15.IsWhole)
    (x0 : Vec F S4096x128 .f32) (x1 : Vec F S4096x128 .f32) (x2 : Vec F S4096x128 .f32) (x3 : Vec F S4096x128 .f32) (x4 : Vec F S1x256x256 .f32) (x5 : Vec F S1x4x256x128 .f32) (x6 : Vec F S1x2x8x128 .f32) (x7 : Vec F S1x128 .f32) (x8 : Vec F S1x1x128x128 .f32) (x9 : Vec F S1x1x128x128 .f32) : Vec F S4096x128 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).1)

/-- The stores to output 11 — 1 of `S1x1x128x128` — cover its block. -/
theorem cover0_A_11 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x256x256 .f32) (harg6 : arg6.IsWhole) (arg7 : Memref sig .tc .vmem S1x4x256x128 .f32) (harg7 : arg7.IsWhole) (arg8 : Memref sig .tc .vmem S1x2x8x128 .f32) (harg8 : arg8.IsWhole) (arg9 : Memref sig .tc .vmem S1x128 .f32) (harg9 : arg9.IsWhole) (arg10 : Memref sig .tc .vmem S1x1x128x128 .f32) (harg10 : arg10.IsWhole) (arg11 : Memref sig .tc .vmem S1x1x128x128 .f32) (harg11 : arg11.IsWhole) (arg12 : Memref sig .tc .vmem S4096x128 .f32) (harg12 : arg12.IsWhole) (arg13 : Memref sig .tc .vmem S1x1x128x128 .f32) (harg13 : arg13.IsWhole) (arg14 : Memref sig .tc .vmem S1x1x128x128 .f32) (harg14 : arg14.IsWhole) (arg15 : Memref sig .tc .vmem S16x128x128 .f32) (harg15 : arg15.IsWhole)
    (x0 : Vec F S4096x128 .f32) (x1 : Vec F S4096x128 .f32) (x2 : Vec F S4096x128 .f32) (x3 : Vec F S4096x128 .f32) (x4 : Vec F S1x256x256 .f32) (x5 : Vec F S1x4x256x128 .f32) (x6 : Vec F S1x2x8x128 .f32) (x7 : Vec F S1x128 .f32) (x8 : Vec F S1x1x128x128 .f32) (x9 : Vec F S1x1x128x128 .f32) (y : S1x1x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).2.1 S1x1x128x128.size (by sl_kernel_rfl) y

/-- What the body leaves in output 11's block. -/
def out0_A_11 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x256x256 .f32) (harg6 : arg6.IsWhole) (arg7 : Memref sig .tc .vmem S1x4x256x128 .f32) (harg7 : arg7.IsWhole) (arg8 : Memref sig .tc .vmem S1x2x8x128 .f32) (harg8 : arg8.IsWhole) (arg9 : Memref sig .tc .vmem S1x128 .f32) (harg9 : arg9.IsWhole) (arg10 : Memref sig .tc .vmem S1x1x128x128 .f32) (harg10 : arg10.IsWhole) (arg11 : Memref sig .tc .vmem S1x1x128x128 .f32) (harg11 : arg11.IsWhole) (arg12 : Memref sig .tc .vmem S4096x128 .f32) (harg12 : arg12.IsWhole) (arg13 : Memref sig .tc .vmem S1x1x128x128 .f32) (harg13 : arg13.IsWhole) (arg14 : Memref sig .tc .vmem S1x1x128x128 .f32) (harg14 : arg14.IsWhole) (arg15 : Memref sig .tc .vmem S16x128x128 .f32) (harg15 : arg15.IsWhole)
    (x0 : Vec F S4096x128 .f32) (x1 : Vec F S4096x128 .f32) (x2 : Vec F S4096x128 .f32) (x3 : Vec F S4096x128 .f32) (x4 : Vec F S1x256x256 .f32) (x5 : Vec F S1x4x256x128 .f32) (x6 : Vec F S1x2x8x128 .f32) (x7 : Vec F S1x128 .f32) (x8 : Vec F S1x1x128x128 .f32) (x9 : Vec F S1x1x128x128 .f32) : Vec F S1x1x128x128 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).2.1)

/-- The stores to output 12 — 1 of `S1x1x128x128` — cover its block. -/
theorem cover0_A_12 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x256x256 .f32) (harg6 : arg6.IsWhole) (arg7 : Memref sig .tc .vmem S1x4x256x128 .f32) (harg7 : arg7.IsWhole) (arg8 : Memref sig .tc .vmem S1x2x8x128 .f32) (harg8 : arg8.IsWhole) (arg9 : Memref sig .tc .vmem S1x128 .f32) (harg9 : arg9.IsWhole) (arg10 : Memref sig .tc .vmem S1x1x128x128 .f32) (harg10 : arg10.IsWhole) (arg11 : Memref sig .tc .vmem S1x1x128x128 .f32) (harg11 : arg11.IsWhole) (arg12 : Memref sig .tc .vmem S4096x128 .f32) (harg12 : arg12.IsWhole) (arg13 : Memref sig .tc .vmem S1x1x128x128 .f32) (harg13 : arg13.IsWhole) (arg14 : Memref sig .tc .vmem S1x1x128x128 .f32) (harg14 : arg14.IsWhole) (arg15 : Memref sig .tc .vmem S16x128x128 .f32) (harg15 : arg15.IsWhole)
    (x0 : Vec F S4096x128 .f32) (x1 : Vec F S4096x128 .f32) (x2 : Vec F S4096x128 .f32) (x3 : Vec F S4096x128 .f32) (x4 : Vec F S1x256x256 .f32) (x5 : Vec F S1x4x256x128 .f32) (x6 : Vec F S1x2x8x128 .f32) (x7 : Vec F S1x128 .f32) (x8 : Vec F S1x1x128x128 .f32) (x9 : Vec F S1x1x128x128 .f32) (y : S1x1x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).2.2.1 S1x1x128x128.size (by sl_kernel_rfl) y

/-- What the body leaves in output 12's block. -/
def out0_A_12 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x256x256 .f32) (harg6 : arg6.IsWhole) (arg7 : Memref sig .tc .vmem S1x4x256x128 .f32) (harg7 : arg7.IsWhole) (arg8 : Memref sig .tc .vmem S1x2x8x128 .f32) (harg8 : arg8.IsWhole) (arg9 : Memref sig .tc .vmem S1x128 .f32) (harg9 : arg9.IsWhole) (arg10 : Memref sig .tc .vmem S1x1x128x128 .f32) (harg10 : arg10.IsWhole) (arg11 : Memref sig .tc .vmem S1x1x128x128 .f32) (harg11 : arg11.IsWhole) (arg12 : Memref sig .tc .vmem S4096x128 .f32) (harg12 : arg12.IsWhole) (arg13 : Memref sig .tc .vmem S1x1x128x128 .f32) (harg13 : arg13.IsWhole) (arg14 : Memref sig .tc .vmem S1x1x128x128 .f32) (harg14 : arg14.IsWhole) (arg15 : Memref sig .tc .vmem S16x128x128 .f32) (harg15 : arg15.IsWhole)
    (x0 : Vec F S4096x128 .f32) (x1 : Vec F S4096x128 .f32) (x2 : Vec F S4096x128 .f32) (x3 : Vec F S4096x128 .f32) (x4 : Vec F S1x256x256 .f32) (x5 : Vec F S1x4x256x128 .f32) (x6 : Vec F S1x2x8x128 .f32) (x7 : Vec F S1x128 .f32) (x8 : Vec F S1x1x128x128 .f32) (x9 : Vec F S1x1x128x128 .f32) : Vec F S1x1x128x128 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).2.2.1)

/-! ## What the outputs hold after each point -/

/-- What the outputs' staging buffers hold after the body at point `t` (as a tuple, in window order): the run's contents at
    the point's memrefs and input blocks. -/
def outsAt0 (c : Dev nD) (t : Fin cfg0.N) : Vec F S4096x128 .f32 × Vec F S1x1x128x128 .f32 × Vec F S1x1x128x128 .f32 :=
  (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t))

/-! ## The pipeline's proof data -/

/-- The pipeline's data on core `c`: the arrays as the call finds them; after the body at point `t` each input's buffer holds
    its block and each output's what `outsAt0` says; between points the scratch and the register hold anything; an array that
    several windows read is shared among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t).1
    | ⟨11, _⟩ => (outsAt0 m c t).2.1
    | ⟨12, _⟩ => (outsAt0 m c t).2.2
  Φ _ := Pipeline.ΦA spec0 c
  q w := Pipeline.shareOf spec0 w
  owed _ := 0

/-- The data's arrays are the contents the call finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t).1 := by dsimp only [dats]
theorem after0_11 (c : Dev nD) (t : Fin cfg0.N) : (dats m 0 c).after 11 t = (outsAt0 m c t).2.1 := by dsimp only [dats]
theorem after0_12 (c : Dev nD) (t : Fin cfg0.N) : (dats m 0 c).after 12 t = (outsAt0 m c t).2.2 := by dsimp only [dats]

/-- Each input's buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1200000 in
/-- The body at any point: the inputs' buffers hold their blocks, so the body's triple applies; the scratch and the register
    are handed to it at some contents and taken back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  unfold outsAt0
  unfold out0_A_10 out0_A_11 out0_A_12; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_A c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  iintro ⟨H0, H1, H2, H3, H4, H5, H6, H7, H8, H9, ⟨%e10, H10⟩, ⟨%e11, H11⟩, ⟨%e12, H12⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _)
  unfold owns; iexists _; isplitr
  swap; · iexact H12
  ipureintro; exact View.read_writes_of_cover _ _ _ _ _ (cover0_A_12 c _ _ _ _ _ _ _ _ _ _ _ _ _ _ _ _ _ _ _ _ _ _ _ _ _ _ _ _ _ _ _ _ _ _ _ _ _ _ _)

/-- The body as the pipeline calls it at point `t` is `bodyAt0`. -/
theorem defs₀_row (t : Fin cfg0.N) :
    defs₀ (F := F) .tc cfg0.body (cfg0.bodyArgs t (cfg0.slots t)) = bodyAt0 t := by
  unfold defs₀; rw [Defs.onTc_tc]

/-- The body's triple as the pipeline asks for it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole program's run, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- From any memory with zero counters every run of the program ends with each array as the pipeline's data says and every
    other buffer as the call found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame, at any float type: every run ends, the arguments are unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v83_0) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v83_1) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v83_2) = (dats m 0 c).arrAt 12 cfg0.N :=
  (h c).1 12

/-- After the frame run, argument `main_arg0` is as launched: input window 3 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- After the frame run, argument `main_arg1` is as launched: no window reads it. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window reads it. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 8 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 8).trans (((dats m 0 c).arrAt_in 8 rfl _).trans ((A_eq m c 8).trans (V_main_arg3 m c)))

/-- After the frame run, argument `main_arg4` is as launched: input window 9 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 9).trans (((dats m 0 c).arrAt_in 9 rfl _).trans ((A_eq m c 9).trans (V_main_arg4 m c)))

/-- The run with each output array named and the arguments unchanged. -/
theorem run_blocks : θ_run defs (onTc (τ := τ) (main (F := F))) ⟨m, fun _ => 0, ρ⟩ fun r => ∀ c : Dev nD,
      r.2.mem ((c : Thread nD τ).loc main_v83_0) = (dats m 0 c).arrAt 10 cfg0.N
      ∧ r.2.mem ((c : Thread nD τ).loc main_v83_1) = (dats m 0 c).arrAt 11 cfg0.N
      ∧ r.2.mem ((c : Thread nD τ).loc main_v83_2) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post10 m r h c,
      post11 m r h c,
      post12 m r h c,
      kept_main_arg0 m r h c,
      kept_main_arg1 m r h c,
      kept_main_arg2 m r h c,
      kept_main_arg3 m r h c,
      kept_main_arg4 m r h c⟩)
    (run_main m ρ)

end Cert.KernelIdeal.Ret

end
-- ==== Proof.RetReal.lean ====
/-
  Retention over the real numbers: the chunked recurrence of the kernel and the dense sum of the reference give one
  value. Nothing here mentions a program.
-/
module

public import Mathlib.Analysis.SpecialFunctions.Exp
public import Idealize.ShloMosaic.Lib.Pointwise

@[expose] public section

noncomputable section

namespace Retention

open Finset

/-- Queries, keys and values of one head: row, column. -/
abbrev Rows := ℕ → Fin 128 → ℝ

/-- The state of a head. -/
abbrev State := Fin 128 → Fin 128 → ℝ

variable (lf lb sc : ℝ) (Q K V : Rows) (s sf sb : State)

/-- A finite sum of reals is the same sum taken in the extended reals. -/
theorem sum_coe {ι : Type} (I : Finset ι) (f : ι → ℝ) : ((∑ i ∈ I, f i : ℝ) : EReal) = ∑ i ∈ I, (f i : EReal) := by
  classical
  induction I using Finset.induction_on with
  | empty => simp
  | insert a I ha ih => rw [Finset.sum_insert ha, Finset.sum_insert ha, EReal.coe_add, ih]

/-- The forward state before chunk `n`. -/
def fwd : ℕ → State
  | 0 => s
  | n + 1 => fun d e => fwd n d e * Real.exp (lf * 256)
      + ∑ b : Fin 256, K (256 * n + b) d * Real.exp (lf * (255 - (b : ℕ))) * V (256 * n + b) e

/-- The backward state after the last `n` chunks. -/
def bwd : ℕ → State
  | 0 => s
  | n + 1 => fun d e => bwd n d e * Real.exp (lb * 256)
      + ∑ b : Fin 256, K (256 * (15 - n) + b) d * Real.exp (lb * (b : ℕ)) * V (256 * (15 - n) + b) e

/-- The decay between two rows of one chunk. -/
def decay (a b : ℕ) : ℝ := if b ≤ a then Real.exp (lf * ((a : ℝ) - b)) else Real.exp (lb * ((b : ℝ) - a))

/-- Row `a` of chunk `n` as the kernel computes it. -/
def chunked (n a : ℕ) (e : Fin 128) : ℝ :=
  (∑ b : Fin 256, (∑ d, Q (256 * n + a) d * K (256 * n + b) d) * (decay lf lb a b * sc) * V (256 * n + b) e)
  + (∑ d, Q (256 * n + a) d * (Real.exp (lf * (a + 1)) * sc) * fwd lf K V sf n d e)
  + ∑ d, Q (256 * n + a) d * (Real.exp (lb * (256 - a)) * sc) * bwd lb K V sb (15 - n) d e

/-- Row `i` as the reference computes it. -/
def dense (i : ℕ) (e : Fin 128) : ℝ :=
  ((∑ j : Fin 4096, V j e * ((∑ d, Q i d * sc * K j d) * if (j : ℕ) ≤ i then Real.exp (lf * ((i : ℝ) - (j : ℕ))) else 0))
    + ∑ d, sf d e * (Q i d * sc * Real.exp (lf * (i + 1))))
  + ((∑ j : Fin 4096, V j e * ((∑ d, Q i d * sc * K j d) * if i < (j : ℕ) then Real.exp (lb * ((j : ℕ) - (i : ℝ))) else 0))
    + ∑ d, sb d e * (Q i d * sc * Real.exp (lb * (4096 - i))))

/-- The forward state is the decayed start plus the decayed products of all earlier rows. -/
theorem fwd_eq (n : ℕ) (d e : Fin 128) :
    fwd lf K V s n d e = Real.exp (lf * (256 * n)) * s d e
      + ∑ m ∈ range (256 * n), Real.exp (lf * (256 * n - 1 - m)) * (K m d * V m e) := by
  induction n with
  | zero => simp [fwd]
  | succ n ih =>
    show fwd lf K V s n d e * Real.exp (lf * 256)
      + ∑ b : Fin 256, K (256 * n + b) d * Real.exp (lf * (255 - (b : ℕ))) * V (256 * n + b) e = _
    rw [ih, show 256 * (n + 1) = 256 * n + 256 by ring, Finset.sum_range_add, Finset.sum_range
      (fun x => Real.exp (lf * (256 * ((n + 1 : ℕ) : ℝ) - 1 - ((256 * n + x : ℕ) : ℝ))) * (K (256 * n + x) d * V (256 * n + x) e)),
      add_mul, Finset.sum_mul, add_assoc]
    congr 1
    · rw [mul_right_comm, ← Real.exp_add]; congr 2; push_cast; ring
    · congr 1
      · refine Finset.sum_congr rfl fun m _ => ?_
        rw [mul_right_comm, ← Real.exp_add]; congr 2; push_cast; ring
      · refine Finset.sum_congr rfl fun b _ => ?_
        rw [show (256 * ((n + 1 : ℕ) : ℝ) - 1 - ((256 * n + (b : ℕ) : ℕ) : ℝ)) = 255 - (b : ℕ) by push_cast; ring]
        ring

/-- The backward state is the decayed start plus the decayed products of all later rows. -/
theorem bwd_eq (n : ℕ) (hn : n ≤ 16) (d e : Fin 128) :
    bwd lb K V s n d e = Real.exp (lb * (256 * n)) * s d e
      + ∑ r ∈ range (256 * n), Real.exp (lb * r) * (K (256 * (16 - n) + r) d * V (256 * (16 - n) + r) e) := by
  induction n with
  | zero => simp [bwd]
  | succ n ih =>
    show bwd lb K V s n d e * Real.exp (lb * 256)
      + ∑ b : Fin 256, K (256 * (15 - n) + b) d * Real.exp (lb * (b : ℕ)) * V (256 * (15 - n) + b) e = _
    rw [ih (by omega), show 256 * (n + 1) = 256 + 256 * n by ring, Finset.sum_range_add, Finset.sum_range
      (fun x => Real.exp (lb * (x : ℝ)) * (K (256 * (16 - (n + 1)) + x) d * V (256 * (16 - (n + 1)) + x) e)),
      add_mul, Finset.sum_mul, add_assoc, add_comm (∑ b : Fin 256, _)]
    congr 1
    · rw [mul_right_comm, ← Real.exp_add]; congr 2; push_cast; ring
    · congr 1
      · refine Finset.sum_congr rfl fun m _ => ?_
        rw [mul_right_comm, ← Real.exp_add, show 256 * (16 - (n + 1)) + (256 + m) = 256 * (16 - n) + m by omega]
        congr 2; push_cast; ring
      · refine Finset.sum_congr rfl fun b _ => ?_
        rw [show 16 - (n + 1) = 15 - n by omega]
        ring

/-- The chunked recurrence computes the dense sum. -/
theorem chunked_eq_dense (n a : ℕ) (hn : n < 16) (ha : a < 256) (e : Fin 128) :
    chunked lf lb sc Q K V sf sb n a e = dense lf lb sc Q K V sf sb (256 * n + a) e := by
  set i := 256 * n + a with hi
  have hir : (i : ℝ) = 256 * n + a := by rw [hi]; push_cast; ring
  set p : ℕ → ℝ := fun m => ∑ d, Q i d * K m d with hp
  have hsc : ∀ m, ∑ d, Q i d * sc * K m d = sc * p m := fun m => by
    rw [hp, Finset.mul_sum]; exact Finset.sum_congr rfl fun d _ => by ring
  have hf : ∀ m : ℕ, m < 256 * n → m ≤ i := fun m h => by omega
  -- the dense side, one sum over all rows
  have hd : dense lf lb sc Q K V sf sb i e
      = (∑ m ∈ range 4096, sc * p m * decay lf lb i m * V m e)
        + sc * Real.exp (lf * (i + 1)) * (∑ d, Q i d * sf d e)
        + sc * Real.exp (lb * (4096 - i)) * ∑ d, Q i d * sb d e := by
    rw [dense, Finset.sum_range (fun m => sc * p m * decay lf lb i m * V m e)]
    rw [show (∑ j : Fin 4096, sc * p j * decay lf lb i j * V j e)
        = (∑ j : Fin 4096, V j e * ((∑ d, Q i d * sc * K j d) * if (j : ℕ) ≤ i then Real.exp (lf * ((i : ℝ) - (j : ℕ))) else 0))
          + ∑ j : Fin 4096, V j e * ((∑ d, Q i d * sc * K j d) * if i < (j : ℕ) then Real.exp (lb * ((j : ℕ) - (i : ℝ))) else 0) from ?_,
      show (∑ d, sf d e * (Q i d * sc * Real.exp (lf * (i + 1)))) = sc * Real.exp (lf * (i + 1)) * ∑ d, Q i d * sf d e from ?_,
      show (∑ d, sb d e * (Q i d * sc * Real.exp (lb * (4096 - i)))) = sc * Real.exp (lb * (4096 - i)) * ∑ d, Q i d * sb d e from ?_]
    · ring
    · rw [Finset.mul_sum]; exact Finset.sum_congr rfl fun d _ => by ring
    · rw [Finset.mul_sum]; exact Finset.sum_congr rfl fun d _ => by ring
    · rw [← Finset.sum_add_distrib]
      refine Finset.sum_congr rfl fun j _ => ?_
      rw [hsc, decay]
      by_cases h : (j : ℕ) ≤ i
      · rw [if_pos h, if_pos h, if_neg (by omega)]; ring
      · rw [if_neg h, if_neg h, if_pos (by omega)]; ring
  rw [hd, chunked, ← hi]
  -- the forward state's share
  have h1 : ∑ d, Q i d * (Real.exp (lf * (a + 1)) * sc) * fwd lf K V sf n d e
      = sc * Real.exp (lf * (i + 1)) * (∑ d, Q i d * sf d e)
        + ∑ m ∈ range (256 * n), sc * p m * decay lf lb i m * V m e := by
    rw [Finset.sum_congr rfl fun d _ => by rw [fwd_eq, mul_add (Q i d * _)], Finset.sum_add_distrib]
    simp only [Finset.mul_sum]
    rw [Finset.sum_comm]
    congr 1
    · refine Finset.sum_congr rfl fun d _ => ?_
      rw [show lf * ((i : ℝ) + 1) = lf * (a + 1) + lf * (256 * n) by rw [hir]; ring, Real.exp_add]; ring
    · refine Finset.sum_congr rfl fun m hm => ?_
      rw [decay, if_pos (hf m (Finset.mem_range.1 hm)), hp, Finset.mul_sum, Finset.sum_mul, Finset.sum_mul]
      refine Finset.sum_congr rfl fun d _ => ?_
      rw [show lf * ((i : ℝ) - m) = lf * (a + 1) + lf * (256 * n - 1 - m) by rw [hir]; ring, Real.exp_add]; ring
  -- the backward state's share
  have h2 : ∑ d, Q i d * (Real.exp (lb * (256 - a)) * sc) * bwd lb K V sb (15 - n) d e
      = sc * Real.exp (lb * (4096 - i)) * (∑ d, Q i d * sb d e)
        + ∑ r ∈ range (256 * (15 - n)), sc * p (256 * n + 256 + r) * decay lf lb i (256 * n + 256 + r) * V (256 * n + 256 + r) e := by
    have hc : ((15 - n : ℕ) : ℝ) = 15 - n := by rw [Nat.cast_sub (by omega)]; norm_num
    rw [Finset.sum_congr rfl fun d _ => by rw [bwd_eq lb K V sb (15 - n) (by omega), mul_add (Q i d * _)], Finset.sum_add_distrib]
    simp only [Finset.mul_sum]
    rw [Finset.sum_comm, show 256 * (16 - (15 - n)) = 256 * n + 256 by omega]
    congr 1
    · refine Finset.sum_congr rfl fun d _ => ?_
      rw [show lb * (4096 - (i : ℝ)) = lb * (256 - a) + lb * (256 * ((15 - n : ℕ) : ℝ)) by rw [hir, hc]; ring, Real.exp_add]; ring
    · refine Finset.sum_congr rfl fun r _ => ?_
      rw [decay, if_neg (by omega), hp, Finset.mul_sum, Finset.sum_mul, Finset.sum_mul]
      refine Finset.sum_congr rfl fun d _ => ?_
      rw [show lb * (((256 * n + 256 + r : ℕ) : ℝ) - i) = lb * (256 - a) + lb * r by rw [hir]; push_cast; ring, Real.exp_add]; ring
  -- the chunk itself
  have h3 : ∑ b : Fin 256, (∑ d, Q i d * K (256 * n + b) d) * (decay lf lb a b * sc) * V (256 * n + b) e
      = ∑ r ∈ range 256, sc * p (256 * n + r) * decay lf lb i (256 * n + r) * V (256 * n + r) e := by
    rw [Finset.sum_range (fun r => sc * p (256 * n + r) * decay lf lb i (256 * n + r) * V (256 * n + r) e)]
    refine Finset.sum_congr rfl fun b _ => ?_
    have : decay lf lb i (256 * n + b) = decay lf lb a b := by
      rw [decay, decay, hir]
      by_cases h : (b : ℕ) ≤ a
      · rw [if_pos h, if_pos (by omega)]; congr 2; push_cast; ring
      · rw [if_neg h, if_neg (by omega)]; congr 2; push_cast; ring
    rw [this, hp]; ring
  rw [h1, h2, h3, show 4096 = 256 * n + 256 + 256 * (15 - n) by omega, Finset.sum_range_add, Finset.sum_range_add]
  ring

/-! ## Start states that need not be finite

A start state enters every row through one sum of its own, beside the part of the start at zero. -/

/-- A state of a head whose entries may be infinite. -/
abbrev Start := Fin 128 → Fin 128 → EReal

/-- A real factor distributes over a sum with a real summand. -/
theorem real_mul_add (r : ℝ) (x : EReal) (y : ℝ) : (r : EReal) * (x + (y : EReal)) = r * x + r * y := by
  induction x using EReal.rec with
  | bot =>
    rw [EReal.bot_add]
    rcases lt_trichotomy r 0 with h | h | h
    · rw [EReal.coe_mul_bot_of_neg h, ← EReal.coe_mul, EReal.top_add_coe]
    · subst h; simp
    · rw [EReal.coe_mul_bot_of_pos h, EReal.bot_add]
  | coe x => rw [← EReal.coe_add, ← EReal.coe_mul, ← EReal.coe_mul, ← EReal.coe_mul, ← EReal.coe_add, mul_add]
  | top =>
    rw [EReal.top_add_coe]
    rcases lt_trichotomy r 0 with h | h | h
    · rw [EReal.coe_mul_top_of_neg h, EReal.bot_add]
    · subst h; simp
    · rw [EReal.coe_mul_top_of_pos h, ← EReal.coe_mul, EReal.top_add_coe]

/-- The forward state before chunk `n`, from a start. -/
def fwdFrom (X : Start) (n : ℕ) : Start :=
  fun d e => (Real.exp (lf * (256 * n)) : EReal) * X d e + (fwd lf K V (fun _ _ => 0) n d e : EReal)

/-- The backward state after the last `n` chunks, from a start. -/
def bwdFrom (X : Start) (n : ℕ) : Start :=
  fun d e => (Real.exp (lb * (256 * n)) : EReal) * X d e + (bwd lb K V (fun _ _ => 0) n d e : EReal)

theorem step_from (l t : ℝ) (n : ℕ) (x : EReal) (f : ℝ) :
    ((Real.exp (l * (256 * n)) : ℝ) * x + (f : EReal)) * (Real.exp (l * 256) : ℝ) + (t : EReal)
      = (Real.exp (l * (256 * (n + 1 : ℕ))) : ℝ) * x + ((f * Real.exp (l * 256) + t : ℝ) : EReal) := by
  rw [mul_comm, real_mul_add, ← mul_assoc, ← EReal.coe_mul, ← Real.exp_add, EReal.coe_add, add_assoc, ← EReal.coe_mul]
  rw [show l * 256 + l * (256 * (n : ℝ)) = l * (256 * (n + 1 : ℕ)) by push_cast; ring, mul_comm (Real.exp (l * 256)) f]

theorem fwdFrom_zero (X : Start) (d e : Fin 128) : fwdFrom lf K V X 0 d e = X d e := by
  simp [fwdFrom, fwd]

theorem bwdFrom_zero (X : Start) (d e : Fin 128) : bwdFrom lb K V X 0 d e = X d e := by
  simp [bwdFrom, bwd]

theorem fwdFrom_succ (X : Start) (n : ℕ) (d e : Fin 128) :
    fwdFrom lf K V X n d e * (Real.exp (lf * 256) : ℝ)
      + ((∑ b : Fin 256, K (256 * n + b) d * Real.exp (lf * (255 - (b : ℕ))) * V (256 * n + b) e : ℝ) : EReal)
      = fwdFrom lf K V X (n + 1) d e :=
  step_from lf _ n (X d e) _

theorem bwdFrom_succ (X : Start) (n : ℕ) (d e : Fin 128) :
    bwdFrom lb K V X n d e * (Real.exp (lb * 256) : ℝ)
      + ((∑ b : Fin 256, K (256 * (15 - n) + b) d * Real.exp (lb * (b : ℕ)) * V (256 * (15 - n) + b) e : ℝ) : EReal)
      = bwdFrom lb K V X (n + 1) d e :=
  step_from lb _ n (X d e) _

/-- Row `a` of chunk `n` as the kernel computes it, from two starts. -/
def chunkedFrom (X Y : Start) (n a : ℕ) (e : Fin 128) : EReal :=
  ((∑ b : Fin 256, (∑ d, Q (256 * n + a) d * K (256 * n + b) d) * (decay lf lb a b * sc) * V (256 * n + b) e : ℝ) : EReal)
  + (∑ d, ((Q (256 * n + a) d * (Real.exp (lf * (a + 1)) * sc) : ℝ) : EReal) * fwdFrom lf K V X n d e)
  + ∑ d, ((Q (256 * n + a) d * (Real.exp (lb * (256 - a)) * sc) : ℝ) : EReal) * bwdFrom lb K V Y (15 - n) d e

/-- Row `i` as the reference computes it, from two starts. -/
def denseFrom (X Y : Start) (i : ℕ) (e : Fin 128) : EReal :=
  (dense lf lb sc Q K V (fun _ _ => 0) (fun _ _ => 0) i e : EReal)
  + (∑ d, X d e * ((Q i d * sc * Real.exp (lf * (i + 1)) : ℝ) : EReal))
  + ∑ d, Y d e * ((Q i d * sc * Real.exp (lb * (4096 - i)) : ℝ) : EReal)

/-- The same row, each direction's rows with its start. -/
theorem denseFrom_eq (X Y : Start) (i : ℕ) (e : Fin 128) :
    denseFrom lf lb sc Q K V X Y i e
      = (((∑ j : Fin 4096, V j e * ((∑ d, Q i d * sc * K j d) * if (j : ℕ) ≤ i then Real.exp (lf * ((i : ℝ) - (j : ℕ))) else 0) : ℝ) : EReal)
          + ∑ d, X d e * ((Q i d * sc * Real.exp (lf * (i + 1)) : ℝ) : EReal))
        + (((∑ j : Fin 4096, V j e * ((∑ d, Q i d * sc * K j d) * if i < (j : ℕ) then Real.exp (lb * ((j : ℕ) - (i : ℝ))) else 0) : ℝ) : EReal)
          + ∑ d, Y d e * ((Q i d * sc * Real.exp (lb * (4096 - i)) : ℝ) : EReal)) := by
  unfold denseFrom dense
  simp only [zero_mul, Finset.sum_const_zero, add_zero]
  rw [EReal.coe_add]
  ac_rfl

/-- The share of a start in a row: a real part and the start's own sum. -/
theorem start_share (w g : Fin 128 → ℝ) (x : Fin 128 → EReal) (f : Fin 128 → ℝ) (p : Fin 128 → ℝ) (hp : ∀ d, w d * g d = p d) :
    ∑ d, (w d : EReal) * ((g d : EReal) * x d + (f d : EReal)) = (∑ d, x d * (p d : EReal)) + ((∑ d, w d * f d : ℝ) : EReal) := by
  rw [sum_coe, ← Finset.sum_add_distrib]
  refine Finset.sum_congr rfl fun d _ => ?_
  rw [real_mul_add, ← mul_assoc, ← EReal.coe_mul, hp, mul_comm (x d), EReal.coe_mul]

/-- The chunked recurrence from two starts computes the dense sum with them. -/
theorem chunkedFrom_eq (X Y : Start) (n a : ℕ) (hn : n < 16) (ha : a < 256) (e : Fin 128) :
    chunkedFrom lf lb sc Q K V X Y n a e = denseFrom lf lb sc Q K V X Y (256 * n + a) e := by
  unfold chunkedFrom denseFrom fwdFrom bwdFrom
  have h15 : ((15 - n : ℕ) : ℝ) = 15 - n := by rw [Nat.cast_sub (by omega)]; norm_num
  rw [start_share _ (fun _ => Real.exp (lf * (256 * n))) (fun d => X d e) _
      (fun d => Q (256 * n + a) d * sc * Real.exp (lf * ((256 * n + a : ℕ) + 1))) (fun d => by
        rw [show lf * (((256 * n + a : ℕ) : ℝ) + 1) = lf * (a + 1) + lf * (256 * n) by push_cast; ring, Real.exp_add]; ring),
    start_share _ (fun _ => Real.exp (lb * (256 * (15 - n : ℕ)))) (fun d => Y d e) _
      (fun d => Q (256 * n + a) d * sc * Real.exp (lb * (4096 - (256 * n + a : ℕ)))) (fun d => by
        rw [show lb * (4096 - ((256 * n + a : ℕ) : ℝ)) = lb * (256 - a) + lb * (256 * (15 - n : ℕ)) by rw [h15]; push_cast; ring,
          Real.exp_add]; ring),
    ← chunked_eq_dense lf lb sc Q K V (fun _ _ => 0) (fun _ _ => 0) n a hn ha e, chunked, EReal.coe_add, EReal.coe_add]
  ac_rfl

end Retention
-- ==== Proof.RetTables.lean ====
module

public import proofs.«01_k».proof.Proof.RetReal
public import proofs.«01_k».proof.Proof.RetFrame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Ret

/-! The four tables the host lines compute from the decays, read at an index: the two-sided decay of a chunk, the
four ladders of a chunk, the two carries of a chunk, and the row of gains. -/

open Retention

variable (m : (ℓ : Loc nD τ sig) → Buf (Elt Ideal) ℓ)

theorem ofBits_256 : Ideal.ofBits .f32 0x43800000#32 = ((256 : ℝ) : EReal) := by
  simp [Ideal.ofBits, Ideal.ieee, -EReal.coe_mul]; norm_num
theorem ofBits_255 : Ideal.ofBits .f32 0x437F0000#32 = ((255 : ℝ) : EReal) := by
  simp [Ideal.ofBits, Ideal.ieee, -EReal.coe_mul]; norm_num
theorem ofBits_4096 : Ideal.ofBits .f32 0x45800000#32 = ((4096 : ℝ) : EReal) := by
  simp [Ideal.ofBits, Ideal.ieee, -EReal.coe_mul]; norm_num
theorem exists_scale : ∃ r : ℝ, Ideal.ofBits .f32 0x3DB504F3#32 = (r : EReal) := by
  simp [Ideal.ofBits, Ideal.ieee, -EReal.coe_mul]

/-- The factor of the scores as a real. -/
def scale : ℝ := exists_scale.choose
theorem ofBits_scale : Ideal.ofBits .f32 0x3DB504F3#32 = (scale : EReal) := exists_scale.choose_spec

theorem sitofp_nat (n : ℕ) (h : n < 4096) : FloatOps.sitofp (F := Ideal) FTy.f32 (BitVec.ofNat 32 n) = ((n : ℝ) : EReal) := by
  show (((BitVec.ofNat 32 n).toInt : ℝ) : EReal) = _
  rw [BitVec.toInt_ofNat', Int.bmod_eq_of_le (by omega) (by omega)]
  norm_num

theorem after_append (l₁ l₂ : List (HloOp τ sig (Elt Ideal))) (W) :
    StableHlo.after (l₁ ++ l₂) W = StableHlo.after l₂ (StableHlo.after l₁ W) := by
  induction l₁ generalizing W with
  | nil => rfl
  | cons op l ih => exact ih _

variable (lf lb : ℝ) (c : Dev nD) (h : Fin 4)
  (hf : m (c, Proc.tc.devRef main_arg1) (ix2 0 h) = (lf : EReal))
  (hb : m (c, Proc.tc.devRef main_arg1) (ix2 1 h) = (lb : EReal))

include hf hb in
theorem mask_at (a b : Fin 256) :
    (V m c main_v37 : FVec Ideal S4x256x256 .f32) (ix3 h a b) = ((decay lf lb a b * scale : ℝ) : EReal) := by
  unfold V
  simp only [List.flatten_cons, List.flatten_nil, List.append_nil, hostOps0, hostOps0_1, hostOps0_2, List.cons_append, List.nil_append]
  entry_read
  simp only [StableHlo.TRef.toBuf, StableHlo.TRef.ofBuf, StableHlo.TRef.of, cast_eq]
  pointwise
  rw [sitofp_nat _ (by omega), sitofp_nat _ (by omega), hf, hb, show (1035273459#32) = 0x3DB504F3#32 from rfl, ofBits_scale]
  simp only [← EReal.coe_sub, ← EReal.coe_neg, ← EReal.coe_zero, EReal.coe_le_coe_iff, sub_nonneg, Nat.cast_le, decay]
  by_cases hle : (b : ℕ) ≤ (a : ℕ)
  · rw [if_pos hle, if_pos hle, max_eq_left (EReal.coe_le_coe_iff.2 (sub_nonneg.2 (Nat.cast_le.2 hle))), ← EReal.coe_mul,
      Ideal.exp_coe, ← EReal.coe_mul]
  · have : ((a : ℕ) : ℝ) ≤ (b : ℕ) := Nat.cast_le.2 (by omega)
    rw [if_neg hle, if_neg hle, neg_sub, max_eq_left (EReal.coe_le_coe_iff.2 (sub_nonneg.2 this)), ← EReal.coe_mul,
      Ideal.exp_coe, ← EReal.coe_mul]

theorem stack0 (A B C D : FVec Ideal S4x1x256 .f32) (h : Fin 4) (a : Fin 256) (d : Fin 128) :
    (broadcastInDim S4x4x256x128 ![0, 1, 2, 3] bcast_S4x4x256x1_S4x4x256x128_0_1_2_3
      (broadcastInDim S4x4x256x1 ![0, 1, 2] bcast_S4x4x256_S4x4x256x1_0_1_2
        (concatenate S4x4x256 1 [⟨S4x1x256, A⟩, ⟨S4x1x256, B⟩, ⟨S4x1x256, C⟩, ⟨S4x1x256, D⟩]
          concatenates_S4x1x256_S4x1x256_S4x1x256_S4x1x256_S4x4x256_d1 : FVec Ideal S4x4x256 .f32) : FVec Ideal S4x4x256x1 .f32) : FVec Ideal S4x4x256x128 .f32)
      (ix4 h 0 a d) = A (ix3 h 0 a) := by
  pointwise

theorem stack1 (A B C D : FVec Ideal S4x1x256 .f32) (h : Fin 4) (a : Fin 256) (d : Fin 128) :
    (broadcastInDim S4x4x256x128 ![0, 1, 2, 3] bcast_S4x4x256x1_S4x4x256x128_0_1_2_3
      (broadcastInDim S4x4x256x1 ![0, 1, 2] bcast_S4x4x256_S4x4x256x1_0_1_2
        (concatenate S4x4x256 1 [⟨S4x1x256, A⟩, ⟨S4x1x256, B⟩, ⟨S4x1x256, C⟩, ⟨S4x1x256, D⟩]
          concatenates_S4x1x256_S4x1x256_S4x1x256_S4x1x256_S4x4x256_d1 : FVec Ideal S4x4x256 .f32) : FVec Ideal S4x4x256x1 .f32) : FVec Ideal S4x4x256x128 .f32)
      (ix4 h 1 a d) = B (ix3 h 0 a) := by
  pointwise

theorem stack2 (A B C D : FVec Ideal S4x1x256 .f32) (h : Fin 4) (a : Fin 256) (d : Fin 128) :
    (broadcastInDim S4x4x256x128 ![0, 1, 2, 3] bcast_S4x4x256x1_S4x4x256x128_0_1_2_3
      (broadcastInDim S4x4x256x1 ![0, 1, 2] bcast_S4x4x256_S4x4x256x1_0_1_2
        (concatenate S4x4x256 1 [⟨S4x1x256, A⟩, ⟨S4x1x256, B⟩, ⟨S4x1x256, C⟩, ⟨S4x1x256, D⟩]
          concatenates_S4x1x256_S4x1x256_S4x1x256_S4x1x256_S4x4x256_d1 : FVec Ideal S4x4x256 .f32) : FVec Ideal S4x4x256x1 .f32) : FVec Ideal S4x4x256x128 .f32)
      (ix4 h 2 a d) = C (ix3 h 0 a) := by
  pointwise

theorem stack3 (A B C D : FVec Ideal S4x1x256 .f32) (h : Fin 4) (a : Fin 256) (d : Fin 128) :
    (broadcastInDim S4x4x256x128 ![0, 1, 2, 3] bcast_S4x4x256x1_S4x4x256x128_0_1_2_3
      (broadcastInDim S4x4x256x1 ![0, 1, 2] bcast_S4x4x256_S4x4x256x1_0_1_2
        (concatenate S4x4x256 1 [⟨S4x1x256, A⟩, ⟨S4x1x256, B⟩, ⟨S4x1x256, C⟩, ⟨S4x1x256, D⟩]
          concatenates_S4x1x256_S4x1x256_S4x1x256_S4x1x256_S4x4x256_d1 : FVec Ideal S4x4x256 .f32) : FVec Ideal S4x4x256x1 .f32) : FVec Ideal S4x4x256x128 .f32)
      (ix4 h 3 a d) = D (ix3 h 0 a) := by
  pointwise

/-- What the tables are computed from: the decays of the two directions and the numbers of a chunk's rows. -/
theorem base_at :
    (StableHlo.after (hostOps0 (F := Ideal) ++ hostOps0_1 (F := Ideal)) (fun b => m (c, b)) (Proc.tc.devRef main_v2) : FVec Ideal S4x1 .f32) (ix2 h 0)
        = m (c, Proc.tc.devRef main_arg1) (ix2 0 h)
    ∧ (StableHlo.after (hostOps0 (F := Ideal) ++ hostOps0_1 (F := Ideal)) (fun b => m (c, b)) (Proc.tc.devRef main_v5) : FVec Ideal S4x1 .f32) (ix2 h 0)
        = m (c, Proc.tc.devRef main_arg1) (ix2 1 h)
    ∧ ∀ a : Fin 256, (StableHlo.after (hostOps0 (F := Ideal) ++ hostOps0_1 (F := Ideal)) (fun b => m (c, b)) (Proc.tc.devRef main_v7) : FVec Ideal S1x256 .f32) (ix2 0 a)
        = ((((a : ℕ) : ℝ)) : EReal) := by
  simp only [hostOps0, hostOps0_1, List.cons_append, List.nil_append]
  refine ⟨?_, ?_, fun a => ?_⟩
  · entry_read
    pointwise
  · entry_read
    pointwise
  · entry_read
    pointwise
    exact sitofp_nat _ (by omega)

/-- The tables are computed after the weights. -/
theorem entry_split (b : Ref sig .tc) : V m c b = StableHlo.after (List.drop 38 (hostOps0_2 (F := Ideal)))
    (StableHlo.after (List.take 38 (hostOps0_2 (F := Ideal)))
      (StableHlo.after (hostOps0 (F := Ideal) ++ hostOps0_1 (F := Ideal)) (fun b => m (c, b)))) b := by
  rw [← after_append, List.take_append_drop, ← after_append]
  rfl

theorem rung0 (W : Valuation τ sig (Elt Ideal)) (h : Fin 4) (a : Fin 256) (X Y : EReal)
    (hX : (W (Proc.tc.devRef main_v2) : FVec Ideal S4x1 .f32) (ix2 h 0) = X) (hY : (W (Proc.tc.devRef main_v7) : FVec Ideal S1x256 .f32) (ix2 0 a) = Y) :
    (StableHlo.after (List.take 38 (hostOps0_2 (F := Ideal))) W (Proc.tc.devRef main_v64) : FVec Ideal S4x1x256 .f32) (ix3 h 0 a) = Ideal.exp (X * (Y + 1)) * Ideal.ofBits .f32 0x3DB504F3#32 := by
  simp only [hostOps0_2, List.take_succ_cons, List.take_zero]
  entry_read
  pointwise
  rw [hX, hY]

theorem table0 (W : Valuation τ sig (Elt Ideal)) (h : Fin 4) (a : Fin 256) (d : Fin 128) :
    (StableHlo.after (List.drop 38 (hostOps0_2 (F := Ideal))) W (Proc.tc.devRef main_v70) : FVec Ideal S4x4x256x128 .f32) (ix4 h 0 a d)
      = (W (Proc.tc.devRef main_v64) : FVec Ideal S4x1x256 .f32) (ix3 h 0 a) := by
  simp only [hostOps0_2, List.drop_succ_cons, List.drop_zero]
  entry_read
  exact stack0 _ _ _ _ h a d

theorem rung1 (W : Valuation τ sig (Elt Ideal)) (h : Fin 4) (a : Fin 256) (X Y : EReal)
    (hX : (W (Proc.tc.devRef main_v2) : FVec Ideal S4x1 .f32) (ix2 h 0) = X) (hY : (W (Proc.tc.devRef main_v7) : FVec Ideal S1x256 .f32) (ix2 0 a) = Y) :
    (StableHlo.after (List.take 38 (hostOps0_2 (F := Ideal))) W (Proc.tc.devRef main_v65) : FVec Ideal S4x1x256 .f32) (ix3 h 0 a) = Ideal.exp (X * (Ideal.ofBits .f32 0x437F0000#32 - Y)) := by
  simp only [hostOps0_2, List.take_succ_cons, List.take_zero]
  entry_read
  pointwise
  rw [hX, hY]

theorem table1 (W : Valuation τ sig (Elt Ideal)) (h : Fin 4) (a : Fin 256) (d : Fin 128) :
    (StableHlo.after (List.drop 38 (hostOps0_2 (F := Ideal))) W (Proc.tc.devRef main_v70) : FVec Ideal S4x4x256x128 .f32) (ix4 h 1 a d)
      = (W (Proc.tc.devRef main_v65) : FVec Ideal S4x1x256 .f32) (ix3 h 0 a) := by
  simp only [hostOps0_2, List.drop_succ_cons, List.drop_zero]
  entry_read
  exact stack1 _ _ _ _ h a d

theorem rung2 (W : Valuation τ sig (Elt Ideal)) (h : Fin 4) (a : Fin 256) (X Y : EReal)
    (hX : (W (Proc.tc.devRef main_v5) : FVec Ideal S4x1 .f32) (ix2 h 0) = X) (hY : (W (Proc.tc.devRef main_v7) : FVec Ideal S1x256 .f32) (ix2 0 a) = Y) :
    (StableHlo.after (List.take 38 (hostOps0_2 (F := Ideal))) W (Proc.tc.devRef main_v66) : FVec Ideal S4x1x256 .f32) (ix3 h 0 a) = Ideal.exp (X * (Ideal.ofBits .f32 0x43800000#32 - Y)) * Ideal.ofBits .f32 0x3DB504F3#32 := by
  simp only [hostOps0_2, List.take_succ_cons, List.take_zero]
  entry_read
  pointwise
  rw [hX, hY]

theorem table2 (W : Valuation τ sig (Elt Ideal)) (h : Fin 4) (a : Fin 256) (d : Fin 128) :
    (StableHlo.after (List.drop 38 (hostOps0_2 (F := Ideal))) W (Proc.tc.devRef main_v70) : FVec Ideal S4x4x256x128 .f32) (ix4 h 2 a d)
      = (W (Proc.tc.devRef main_v66) : FVec Ideal S4x1x256 .f32) (ix3 h 0 a) := by
  simp only [hostOps0_2, List.drop_succ_cons, List.drop_zero]
  entry_read
  exact stack2 _ _ _ _ h a d

theorem rung3 (W : Valuation τ sig (Elt Ideal)) (h : Fin 4) (a : Fin 256) (X Y : EReal)
    (hX : (W (Proc.tc.devRef main_v5) : FVec Ideal S4x1 .f32) (ix2 h 0) = X) (hY : (W (Proc.tc.devRef main_v7) : FVec Ideal S1x256 .f32) (ix2 0 a) = Y) :
    (StableHlo.after (List.take 38 (hostOps0_2 (F := Ideal))) W (Proc.tc.devRef main_v67) : FVec Ideal S4x1x256 .f32) (ix3 h 0 a) = Ideal.exp (X * Y) := by
  simp only [hostOps0_2, List.take_succ_cons, List.take_zero]
  entry_read
  pointwise
  rw [hX, hY]

theorem table3 (W : Valuation τ sig (Elt Ideal)) (h : Fin 4) (a : Fin 256) (d : Fin 128) :
    (StableHlo.after (List.drop 38 (hostOps0_2 (F := Ideal))) W (Proc.tc.devRef main_v70) : FVec Ideal S4x4x256x128 .f32) (ix4 h 3 a d)
      = (W (Proc.tc.devRef main_v67) : FVec Ideal S4x1x256 .f32) (ix3 h 0 a) := by
  simp only [hostOps0_2, List.drop_succ_cons, List.drop_zero]
  entry_read
  exact stack3 _ _ _ _ h a d

include hf in
theorem dec0_at (a : Fin 256) (d : Fin 128) :
    (V m c main_v70 : FVec Ideal S4x4x256x128 .f32) (ix4 h 0 a d) = ((Real.exp (lf * ((a : ℕ) + 1)) * scale : ℝ) : EReal) := by
  rw [entry_split]
  refine (table0 _ h a d).trans ((rung0 _ h a _ _ (((base_at m c h).1).trans hf) ((base_at m c h).2.2 a)).trans ?_)
  rw [ofBits_scale, ← EReal.coe_one, ← EReal.coe_add, ← EReal.coe_mul, Ideal.exp_coe, ← EReal.coe_mul]

include hf in
theorem dec1_at (a : Fin 256) (d : Fin 128) :
    (V m c main_v70 : FVec Ideal S4x4x256x128 .f32) (ix4 h 1 a d) = ((Real.exp (lf * (255 - (a : ℕ))) : ℝ) : EReal) := by
  rw [entry_split]
  refine (table1 _ h a d).trans ((rung1 _ h a _ _ (((base_at m c h).1).trans hf) ((base_at m c h).2.2 a)).trans ?_)
  rw [ofBits_255, ← EReal.coe_sub, ← EReal.coe_mul, Ideal.exp_coe]

include hb in
theorem dec2_at (a : Fin 256) (d : Fin 128) :
    (V m c main_v70 : FVec Ideal S4x4x256x128 .f32) (ix4 h 2 a d) = ((Real.exp (lb * (256 - (a : ℕ))) * scale : ℝ) : EReal) := by
  rw [entry_split]
  refine (table2 _ h a d).trans ((rung2 _ h a _ _ (((base_at m c h).2.1).trans hb) ((base_at m c h).2.2 a)).trans ?_)
  rw [ofBits_256, ofBits_scale, ← EReal.coe_sub, ← EReal.coe_mul, Ideal.exp_coe, ← EReal.coe_mul]

include hb in
theorem dec3_at (a : Fin 256) (d : Fin 128) :
    (V m c main_v70 : FVec Ideal S4x4x256x128 .f32) (ix4 h 3 a d) = ((Real.exp (lb * (a : ℕ)) : ℝ) : EReal) := by
  rw [entry_split]
  refine (table3 _ h a d).trans ((rung3 _ h a _ _ (((base_at m c h).2.1).trans hb) ((base_at m c h).2.2 a)).trans ?_)
  rw [← EReal.coe_mul, Ideal.exp_coe]

include hf in
theorem cdec0_at (e : Fin 8) (d : Fin 128) :
    (V m c main_v81 : FVec Ideal S4x2x8x128 .f32) (ix4 h 0 e d) = ((Real.exp (lf * 256) : ℝ) : EReal) := by
  unfold V
  simp only [List.flatten_cons, List.flatten_nil, List.append_nil, hostOps0, hostOps0_1, hostOps0_2, List.cons_append, List.nil_append]
  entry_read
  pointwise
  rw [hf, show (1132462080#32) = 0x43800000#32 from rfl, ofBits_256, ← EReal.coe_mul, Ideal.exp_coe]

include hb in
theorem cdec1_at (e : Fin 8) (d : Fin 128) :
    (V m c main_v81 : FVec Ideal S4x2x8x128 .f32) (ix4 h 1 e d) = ((Real.exp (lb * 256) : ℝ) : EReal) := by
  unfold V
  simp only [List.flatten_cons, List.flatten_nil, List.append_nil, hostOps0, hostOps0_1, hostOps0_2, List.cons_append, List.nil_append]
  entry_read
  pointwise
  rw [hb, show (1132462080#32) = 0x43800000#32 from rfl, ofBits_256, ← EReal.coe_mul, Ideal.exp_coe]

theorem gain_at (d : Fin 512) :
    (V m c main_v82 : FVec Ideal S1x512 .f32) (ix2 0 d) = m (c, Proc.tc.devRef main_arg2) (ix1 d) := by
  unfold V
  simp only [List.flatten_cons, List.flatten_nil, List.append_nil, hostOps0, hostOps0_1, hostOps0_2, List.cons_append, List.nil_append]
  entry_read
  pointwise

end Cert.KernelIdeal.Result
-- ==== Proof.RetReads.lean ====
module

public import proofs.«01_k».proof.Proof.RetTables
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Ret

/-! The blocks of a point: batch `t / 4`, head `t % 4`. -/

variable (m : (ℓ : Loc nD τ sig) → Buf (Elt Ideal) ℓ)

theorem idx : ∀ t : Fin cfg0.N, win0_0.index t = ![t.val / 4, t.val % 4] ∧ win0_1.index t = ![t.val / 4, 4 + t.val % 4]
    ∧ win0_2.index t = ![t.val / 4, 8 + t.val % 4] ∧ win0_3.index t = ![t.val / 4, 12 + t.val % 4]
    ∧ win0_4.index t = ![t.val % 4, 0, 0] ∧ win0_5.index t = ![t.val % 4, 0, 0, 0] ∧ win0_6.index t = ![t.val % 4, 0, 0, 0]
    ∧ win0_7.index t = ![0, t.val % 4] ∧ win0_8.index t = ![t.val / 4, t.val % 4, 0, 0] ∧ win0_9.index t = ![t.val / 4, t.val % 4, 0, 0]
    ∧ win0_10.index t = ![t.val / 4, t.val % 4] ∧ t.val < 16 := by decide +kernel

/-- The batch and the head of a point. -/
def bat (t : Fin cfg0.N) : Fin 4 := ⟨t.val / 4, by have := (idx t).2.2.2.2.2.2.2.2.2.2.2; omega⟩
def head (t : Fin cfg0.N) : Fin 4 := ⟨t.val % 4, by omega⟩

variable (c : Dev nD) (t : Fin cfg0.N)

theorem rd0 (r : Fin 4096) (d : Fin 128) :
    (iblk m c 0 t : FVec Ideal S4096x128 .f32) (ix2 r d)
      = (m ((c : Thread nD τ).loc main_arg0) : FVec Ideal S16384x7168 .f32) (ix2 ⟨bat t * 4096 + r, by omega⟩ ⟨head t * 128 + d, by omega⟩) := by
  have ht := (idx t).2.2.2.2.2.2.2.2.2.2.2
  blk_point [iblk, V, idx t, bat, head]

theorem rd1 (r : Fin 4096) (d : Fin 128) :
    (iblk m c 1 t : FVec Ideal S4096x128 .f32) (ix2 r d)
      = (m ((c : Thread nD τ).loc main_arg0) : FVec Ideal S16384x7168 .f32) (ix2 ⟨bat t * 4096 + r, by omega⟩ ⟨512 + (head t * 128 + d), by omega⟩) := by
  have ht := (idx t).2.2.2.2.2.2.2.2.2.2.2
  blk_point [iblk, V, idx t, bat, head]

theorem rd2 (r : Fin 4096) (d : Fin 128) :
    (iblk m c 2 t : FVec Ideal S4096x128 .f32) (ix2 r d)
      = (m ((c : Thread nD τ).loc main_arg0) : FVec Ideal S16384x7168 .f32) (ix2 ⟨bat t * 4096 + r, by omega⟩ ⟨1024 + (head t * 128 + d), by omega⟩) := by
  have ht := (idx t).2.2.2.2.2.2.2.2.2.2.2
  blk_point [iblk, V, idx t, bat, head]

theorem rd3 (r : Fin 4096) (d : Fin 128) :
    (iblk m c 3 t : FVec Ideal S4096x128 .f32) (ix2 r d)
      = (m ((c : Thread nD τ).loc main_arg0) : FVec Ideal S16384x7168 .f32) (ix2 ⟨bat t * 4096 + r, by omega⟩ ⟨1536 + (head t * 128 + d), by omega⟩) := by
  have ht := (idx t).2.2.2.2.2.2.2.2.2.2.2
  blk_point [iblk, V, idx t, bat, head]

theorem whole4 (A : FVec Ideal S4x256x256 .f32) (a b : Fin 256) :
    (((cfg0.win 4).blk t).view.read (Elt Ideal) A : FVec Ideal S1x256x256 .f32) (ix3 0 a b) = A (ix3 (head t) a b) := by
  have ht := (idx t).2.2.2.2.2.2.2.2.2.2.2
  blk_point [idx t, head]

theorem rd4 (a b : Fin 256) :
    (iblk m c 4 t : FVec Ideal S1x256x256 .f32) (ix3 0 a b) = (V m c main_v37 : FVec Ideal S4x256x256 .f32) (ix3 (head t) a b) :=
  whole4 t (V m c main_v37) a b

theorem whole5 (A : FVec Ideal S4x4x256x128 .f32) (k : Fin 4) (a : Fin 256) (d : Fin 128) :
    (((cfg0.win 5).blk t).view.read (Elt Ideal) A : FVec Ideal S1x4x256x128 .f32) (ix4 0 k a d) = A (ix4 (head t) k a d) := by
  have ht := (idx t).2.2.2.2.2.2.2.2.2.2.2
  blk_point [idx t, head]

theorem rd5 (k : Fin 4) (a : Fin 256) (d : Fin 128) :
    (iblk m c 5 t : FVec Ideal S1x4x256x128 .f32) (ix4 0 k a d) = (V m c main_v70 : FVec Ideal S4x4x256x128 .f32) (ix4 (head t) k a d) :=
  whole5 t (V m c main_v70) k a d

theorem whole6 (A : FVec Ideal S4x2x8x128 .f32) (k : Fin 2) (a : Fin 8) (d : Fin 128) :
    (((cfg0.win 6).blk t).view.read (Elt Ideal) A : FVec Ideal S1x2x8x128 .f32) (ix4 0 k a d) = A (ix4 (head t) k a d) := by
  have ht := (idx t).2.2.2.2.2.2.2.2.2.2.2
  blk_point [idx t, head]

theorem rd6 (k : Fin 2) (a : Fin 8) (d : Fin 128) :
    (iblk m c 6 t : FVec Ideal S1x2x8x128 .f32) (ix4 0 k a d) = (V m c main_v81 : FVec Ideal S4x2x8x128 .f32) (ix4 (head t) k a d) :=
  whole6 t (V m c main_v81) k a d

theorem whole7 (A : FVec Ideal S1x512 .f32) (d : Fin 128) :
    (((cfg0.win 7).blk t).view.read (Elt Ideal) A : FVec Ideal S1x128 .f32) (ix2 0 d) = A (ix2 0 ⟨head t * 128 + d, by omega⟩) := by
  have ht := (idx t).2.2.2.2.2.2.2.2.2.2.2
  blk_point [idx t, head]

theorem rd7 (d : Fin 128) :
    (iblk m c 7 t : FVec Ideal S1x128 .f32) (ix2 0 d) = (V m c main_v82 : FVec Ideal S1x512 .f32) (ix2 0 ⟨head t * 128 + d, by omega⟩) :=
  whole7 t (V m c main_v82) d

theorem rd8 (d e : Fin 128) :
    (iblk m c 8 t : FVec Ideal S1x1x128x128 .f32) (ix4 0 0 d e)
      = (m ((c : Thread nD τ).loc main_arg3) : FVec Ideal S4x4x128x128 .f32) (ix4 (bat t) (head t) d e) := by
  have ht := (idx t).2.2.2.2.2.2.2.2.2.2.2
  blk_point [iblk, V, idx t, bat, head]

theorem rd9 (d e : Fin 128) :
    (iblk m c 9 t : FVec Ideal S1x1x128x128 .f32) (ix4 0 0 d e)
      = (m ((c : Thread nD τ).loc main_arg4) : FVec Ideal S4x4x128x128 .f32) (ix4 (bat t) (head t) d e) := by
  have ht := (idx t).2.2.2.2.2.2.2.2.2.2.2
  blk_point [iblk, V, idx t, bat, head]

end Cert.KernelIdeal.Result
-- ==== Proof.RetSteps.lean ====
/-
  The retention body at real-valued inputs: the state before every chunk, the contents of the scratch array and the rows the
  body stores, each as the real-number recurrence of `RetReal`.
-/
module

public import proofs.«01_k».proof.Proof.RetFrame
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.RetReal

@[expose] public section

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Ret

open Retention

/-- One output row's last step: the group norm over the head's columns, the gain and the gate. -/
def post (o : Fin 128 → EReal) (gn g : EReal) (e : Fin 128) : EReal :=
  (o e - Ideal.div (∑ x, o x) (Ideal.ofBits .f32 1124073472#32))
    * Ideal.rsqrt (Ideal.div (∑ x, (o x - Ideal.div (∑ x, o x) (Ideal.ofBits .f32 1124073472#32))
        * (o x - Ideal.div (∑ x, o x) (Ideal.ofBits .f32 1124073472#32))) (Ideal.ofBits .f32 1124073472#32)
      + Ideal.ofBits .f32 925353388#32) * gn * (g * Ideal.logistic g)

/-- One step of the backward state from real rows. -/
theorem pay16_at {v8 : Vec Ideal S1x1x256x128 .f32} {v12 : Vec Ideal S1x1x1x128 .f32} {acc : FVec Ideal S128x128 .f32}
    {kx vx : Vec Ideal S256x128 .f32} {w : ℕ → ℝ} {g : ℝ} {S : Start} {K V : Rows}
    (h8 : ∀ b d, v8 (ix4 0 0 b d) = (w (b : Fin 256) : EReal)) (h12 : ∀ e, v12 (ix4 0 0 0 e) = (g : EReal))
    (ha : ∀ d e, acc (ix2 d e) = S d e) (hk : ∀ b d, kx (ix2 b d) = (K (b : Fin 256) d : EReal))
    (hv : ∀ b d, vx (ix2 b d) = (V (b : Fin 256) d : EReal)) (d e : Fin 128) :
    k0_pay16 (F := Ideal) v8 v12 acc kx vx (ix2 d e)
      = S d e * (g : EReal) + ((∑ b : Fin 256, K b d * w b * V b e : ℝ) : EReal) := by
  pointwise [k0_pay16]
  simp only [h8, h12, ha, hk, hv]
  simp only [sum_coe, EReal.coe_mul]

/-- One step of the forward state from real rows. -/
theorem pay4_at {v5 : FVec Ideal S256x128 .f32} {v11 : FVec Ideal S1x128 .f32} {acc : FVec Ideal S128x128 .f32}
    {kx vx : Vec Ideal S256x128 .f32} {w : ℕ → ℝ} {g : ℝ} {S : Start} {K V : Rows}
    (h5 : ∀ b d, v5 (ix2 b d) = (w (b : Fin 256) : EReal)) (h11 : ∀ e, v11 (ix2 0 e) = (g : EReal))
    (ha : ∀ d e, acc (ix2 d e) = S d e) (hk : ∀ b d, kx (ix2 b d) = (K (b : Fin 256) d : EReal))
    (hv : ∀ b d, vx (ix2 b d) = (V (b : Fin 256) d : EReal)) (d e : Fin 128) :
    k0_pay4 (F := Ideal) v5 v11 acc kx vx (ix2 d e)
      = S d e * (g : EReal) + ((∑ b : Fin 256, K b d * w b * V b e : ℝ) : EReal) := by
  pointwise [k0_pay4]
  simp only [h5, h11, ha, hk, hv]
  simp only [sum_coe, EReal.coe_mul]

/-- One chunk's rows before the gain and the gate, from real rows. -/
theorem pay3_at {v1 : FVec Ideal S256x256 .f32} {v3 v7 : FVec Ideal S256x128 .f32} {v15 : FVec Ideal S1x128 .f32}
    {acc : FVec Ideal S128x128 .f32} {qx kx vx gx : Vec Ideal S256x128 .f32} {sx : Vec Ideal S1x128x128 .f32}
    {mk : ℕ → ℕ → ℝ} {wf wb : ℕ → ℝ} {S T : Start} {Q K V : Rows}
    (h1 : ∀ a b, v1 (ix2 a b) = (mk (a : Fin 256) (b : Fin 256) : EReal))
    (h3 : ∀ b d, v3 (ix2 b d) = (wf (b : Fin 256) : EReal)) (h7 : ∀ b d, v7 (ix2 b d) = (wb (b : Fin 256) : EReal))
    (ha : ∀ d e, acc (ix2 d e) = S d e) (hs : ∀ d e, sx (ix3 0 d e) = T d e)
    (hq : ∀ b d, qx (ix2 b d) = (Q (b : Fin 256) d : EReal)) (hk : ∀ b d, kx (ix2 b d) = (K (b : Fin 256) d : EReal))
    (hv : ∀ b d, vx (ix2 b d) = (V (b : Fin 256) d : EReal)) (a : Fin 256) (e : Fin 128) :
    k0_pay3 (F := Ideal) v15 (k0_pay6 v1 v3 v7 acc qx kx vx sx) (k0_pay7 v1 v3 v7 acc qx kx vx sx) gx (ix2 a e)
      = post (fun e => (((∑ b : Fin 256, (∑ d, Q a d * K b d) * mk a b * V b e : ℝ) : EReal)
          + (∑ d, ((Q a d * wf a : ℝ) : EReal) * S d e) + ∑ d, ((Q a d * wb a : ℝ) : EReal) * T d e)) (v15 (ix2 0 e)) (gx (ix2 a e)) e := by
  have hO : ∀ e, (∑ b : Fin 256, (∑ d, (Q a d : EReal) * (K b d : EReal)) * (mk a b : EReal) * (V b e : EReal))
      + (∑ d, (Q a d : EReal) * (wf a : EReal) * S d e) + ∑ d, (Q a d : EReal) * (wb a : EReal) * T d e
      = (((∑ b : Fin 256, (∑ d, Q a d * K b d) * mk a b * V b e : ℝ) : EReal)
          + (∑ d, ((Q a d * wf a : ℝ) : EReal) * S d e) + ∑ d, ((Q a d * wb a : ℝ) : EReal) * T d e) := fun e => by
    simp only [sum_coe, EReal.coe_add, EReal.coe_mul]
  have ho : ∀ e, k0_pay6 (F := Ideal) v1 v3 v7 acc qx kx vx sx (ix2 a e)
      = (((∑ b : Fin 256, (∑ d, Q a d * K b d) * mk a b * V b e : ℝ) : EReal)
          + (∑ d, ((Q a d * wf a : ℝ) : EReal) * S d e) + ∑ d, ((Q a d * wb a : ℝ) : EReal) * T d e)
        - Ideal.div (∑ e, (((∑ b : Fin 256, (∑ d, Q a d * K b d) * mk a b * V b e : ℝ) : EReal)
          + (∑ d, ((Q a d * wf a : ℝ) : EReal) * S d e) + ∑ d, ((Q a d * wb a : ℝ) : EReal) * T d e)) (Ideal.ofBits .f32 1124073472#32) := fun e => by
    pointwise [k0_pay6]
    simp only [h1, h3, h7, ha, hs, hq, hk, hv, hO]
  have hz : k0_pay7 (F := Ideal) v1 v3 v7 acc qx kx vx sx (ix2 a 0)
      = Ideal.div (∑ x, k0_pay6 (F := Ideal) v1 v3 v7 acc qx kx vx sx (ix2 a x) * k0_pay6 (F := Ideal) v1 v3 v7 acc qx kx vx sx (ix2 a x))
      (Ideal.ofBits .f32 1124073472#32) := by
    pointwise [k0_pay7]
  pointwise [k0_pay3]
  rw [hz]
  simp only [ho, post]

/-- Where the trips' chunks and the scratch array's slots lie. -/
theorem off2_eq : ∀ k : Fin k0_t1_loop.trips, k0_off2 k = ![256 * (15 - k.val), 0] := by decide +kernel
theorem off1_eq : ∀ k : Fin k0_t1_loop.trips, k0_off1 k = ![15 - k.val, 0, 0] := by decide +kernel
theorem off3_eq : ∀ k : Fin k0_t2_loop.trips, k0_off3 k = ![256 * k.val, 0] := by decide +kernel
theorem off4_eq : ∀ k : Fin k0_t2_loop.trips, k0_off4 k = ![k.val, 0, 0] := by decide +kernel
theorem trips1 : k0_t1_loop.trips = 16 := by decide +kernel
theorem trips2 : k0_t2_loop.trips = 16 := by decide +kernel

/-- A chunk's load of a whole array of rows, entry by entry. -/
theorem chunk_at {m : Memref sig .tc .vmem S4096x128 .f32} (h : m.IsWhole) (x : Vec Ideal S4096x128 .f32) (off : Fin 2 → ℕ)
    (inb : ∀ a, off a + S256x128.size a ≤ S4096x128.size a) (n : ℕ) (ho : off = ![256 * n, 0]) (X : Rows)
    (hx : ∀ r d, x (ix2 r d) = (X (r : Fin 4096) d : EReal)) (b : Fin 256) (d : Fin 128) :
    (View.readAt (Elt Ideal) m.view (Rect.unit (s := S4096x128) off S256x128.size inb).toLoadRect (h.unread x)) (ix2 b d)
      = (X (256 * n + b) d : EReal) := by
  subst ho
  have hb : 256 * n + (b : ℕ) < 4096 := by have := inb 0; simp [S4096x128, S256x128] at this; omega
  rw [View.readAt_apply, Memref.IsWhole.read_unread]
  rw [← hx ⟨256 * n + b, hb⟩ d]
  refine congrArg x (funext fun a => ?_)
  match a with
  | ⟨0, _⟩ => exact Fin.ext (by simp [ix2])
  | ⟨1, _⟩ => exact Fin.ext (by simp [ix2])
-- ==== Proof.RetLoops.lean ====
/-
  The two loops of the retention body at real-valued inputs, by induction over their trips.
-/
module

public import proofs.«01_k».proof.Proof.RetSteps
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Ret

open Retention

variable {c : Dev nD} {i : grid0.Coords}
  {arg2 : Memref sig .tc .vmem S4096x128 .f32} {harg2 : arg2.IsWhole} {arg3 : Memref sig .tc .vmem S4096x128 .f32} {harg3 : arg3.IsWhole} {arg4 : Memref sig .tc .vmem S4096x128 .f32} {harg4 : arg4.IsWhole} {arg5 : Memref sig .tc .vmem S4096x128 .f32} {harg5 : arg5.IsWhole} {arg6 : Memref sig .tc .vmem S1x256x256 .f32} {harg6 : arg6.IsWhole} {arg7 : Memref sig .tc .vmem S1x4x256x128 .f32} {harg7 : arg7.IsWhole} {arg8 : Memref sig .tc .vmem S1x2x8x128 .f32} {harg8 : arg8.IsWhole} {arg9 : Memref sig .tc .vmem S1x128 .f32} {harg9 : arg9.IsWhole} {arg10 : Memref sig .tc .vmem S1x1x128x128 .f32} {harg10 : arg10.IsWhole} {arg11 : Memref sig .tc .vmem S1x1x128x128 .f32} {harg11 : arg11.IsWhole} {arg12 : Memref sig .tc .vmem S4096x128 .f32} {harg12 : arg12.IsWhole} {arg13 : Memref sig .tc .vmem S1x1x128x128 .f32} {harg13 : arg13.IsWhole} {arg14 : Memref sig .tc .vmem S1x1x128x128 .f32} {harg14 : arg14.IsWhole} {arg15 : Memref sig .tc .vmem S16x128x128 .f32} {harg15 : arg15.IsWhole}

/-- A slot of the scratch array as the body stores it. -/
theorem slot_at {acc : FVec Ideal S128x128 .f32} (T : ℕ → Start) (off : Fin 3 → ℕ)
    (inb : ∀ a, off a + S1x128x128.size a ≤ S16x128x128.size a) (n k : ℕ) (ho : off = ![n, 0, 0]) (hn : 15 - n = k)
    (ha : ∀ d e, acc (ix2 d e) = T k d e) (x : S1x128x128.Idx) :
    k0_pay15 acc x = (fun y : S16x128x128.Idx => T (15 - (y 0).val) (y 1) (y 2))
      ((Rect.unit (s := S16x128x128) off S1x128x128.size inb).emb x) := by
  subst ho hn
  obtain ⟨d, e, rfl⟩ : ∃ d e : Fin 128, x = ix3 0 d e := by
    refine ⟨x 1, x 2, (eq_ix3 x).trans ?_⟩
    rw [show x 0 = (⟨0, by decide⟩ : Fin 1) from Subsingleton.elim (α := Fin 1) _ _]
    rfl
  have hp : k0_pay15 acc (ix3 0 d e) = acc (ix2 d e) := by
    pointwise [k0_pay15]
  rw [hp, ha]
  have he : (Rect.unit (s := S16x128x128) ![n, 0, 0] S1x128x128.size inb).emb (ix3 0 d e)
      = ix3 ⟨n, by have := inb 0; simp [S16x128x128, S1x128x128] at this; omega⟩ d e := by
    funext u
    match u with
    | ⟨0, _⟩ => exact Fin.ext (show n + 1 * 0 = n by omega)
    | ⟨1, _⟩ => exact Fin.ext (show 0 + 1 * (d : ℕ) = d by omega)
    | ⟨2, _⟩ => exact Fin.ext (show 0 + 1 * (e : ℕ) = e by omega)
  rw [he]
  rfl

/-- An index of the scratch array lies in the slot its first coordinate names. -/
theorem mem_slot (off : Fin 3 → ℕ) (inb : ∀ a, off a + S1x128x128.size a ≤ S16x128x128.size a) (n : ℕ) (ho : off = ![n, 0, 0])
    (y : S16x128x128.Idx) (hy : (y 0).val = n) : y ∈ (Rect.unit (s := S16x128x128) off S1x128x128.size inb).set := by
  subst ho
  rw [Rect.mem_set_unit]
  intro a
  match a with
  | ⟨0, _⟩ => exact ⟨by simp [hy], by simp [hy, S1x128x128]⟩
  | ⟨1, _⟩ => exact ⟨by simp, by simpa [S1x128x128] using (y 1).isLt⟩
  | ⟨2, _⟩ => exact ⟨by simp, by simpa [S1x128x128] using (y 2).isLt⟩

/-- What one trip of the backward loop stores. -/
theorem trip_slots (v8 : Vec Ideal S1x1x256x128 .f32) (v12 : Vec Ideal S1x1x1x128 .f32) (X3 : BufTy.Contents (Elt Ideal) arg3.view.ty)
    (X4 : BufTy.Contents (Elt Ideal) arg4.view.ty) (k : Fin k0_t1_loop.trips) (acc : FVec Ideal S128x128 .f32) :
    tripL_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 v8 v12 X3 X4 k acc
      = [⟨Rect.unit (s := S16x128x128) (k0_off1 k) S1x128x128.size (k0_off1_inb k), k0_pay15 acc⟩] := by
  unfold tripL_k0_t1 trip_k0_t1
  rfl

/-- The backward loop after `k` trips: its state, and the slots of the scratch array it has stored. -/
theorem back_loop {v8 : Vec Ideal S1x1x256x128 .f32} {v12 : Vec Ideal S1x1x1x128 .f32} {init : FVec Ideal S128x128 .f32}
    {x1 x2 : Vec Ideal S4096x128 .f32} {lb : ℝ} {sb : Start} {K V : Rows}
    (h8 : ∀ b d, v8 (ix4 0 0 b d) = (Real.exp (lb * ((b : Fin 256) : ℕ)) : EReal))
    (h12 : ∀ e, v12 (ix4 0 0 0 e) = (Real.exp (lb * 256) : EReal))
    (hi : ∀ d e, init (ix2 d e) = sb d e) (hk : ∀ r d, x1 (ix2 r d) = (K (r : Fin 4096) d : EReal))
    (hv : ∀ r d, x2 (ix2 r d) = (V (r : Fin 4096) d : EReal)) (k : ℕ) (hk16 : k ≤ 16) :
    (∀ d e, (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 v8 v12 (harg3.unread x1) (harg4.unread x2) init k).1 (ix2 d e) = bwdFrom lb K V sb k d e)
    ∧ (∀ p ∈ (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 v8 v12 (harg3.unread x1) (harg4.unread x2) init k).2, ∀ x : p.1.shape.Idx, p.2 x = (fun y : S16x128x128.Idx => bwdFrom lb K V sb (15 - (y 0).val) (y 1) (y 2)) (p.1.emb x))
    ∧ (∀ y : S16x128x128.Idx, 16 ≤ k + (y 0).val → ∃ p ∈ (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 v8 v12 (harg3.unread x1) (harg4.unread x2) init k).2, y ∈ p.1.set) := by
  induction k with
  | zero =>
    refine ⟨fun d e => (hi d e).trans (bwdFrom_zero lb K V sb d e).symm, fun p hp => absurd hp List.not_mem_nil, fun y hy => ?_⟩
    have := (y 0).isLt
    simp [S16x128x128] at this
    omega
  | succ k ih =>
    obtain ⟨h1, h2, h3⟩ := ih (by omega)
    have hkt : k < k0_t1_loop.trips := by rw [trips1]; omega
    rw [st_k0_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 v8 v12 (harg3.unread x1) (harg4.unread x2) init ⟨k, hkt⟩]
    refine ⟨fun d e => ?_, fun p hp x => ?_, fun y hy => ?_⟩
    · unfold tripR_k0_t1 trip_k0_t1
      refine (pay16_at (w := fun b => Real.exp (lb * b)) (K := fun b => K (256 * (15 - k) + b)) (V := fun b => V (256 * (15 - k) + b)) h8 h12 h1
        (chunk_at harg3 x1 _ _ (15 - k) (off2_eq ⟨k, hkt⟩) K hk) (chunk_at harg4 x2 _ _ (15 - k) (off2_eq ⟨k, hkt⟩) V hv) d e).trans (bwdFrom_succ lb K V sb k d e)
    · rcases List.mem_append.1 hp with hp | hp
      · rw [trip_slots] at hp
        have hp' := List.mem_singleton.1 hp
        subst hp'
        exact slot_at (bwdFrom lb K V sb) _ (k0_off1_inb ⟨k, hkt⟩) (15 - k) k (off1_eq ⟨k, hkt⟩) (by omega) h1 x
      · exact h2 p hp x
    · by_cases h : (y 0).val = 15 - k
      · rw [trip_slots]
        exact ⟨_, List.mem_append_left _ (List.mem_singleton.2 rfl), mem_slot _ (k0_off1_inb ⟨k, hkt⟩) (15 - k) (off1_eq ⟨k, hkt⟩) y h⟩
      · obtain ⟨p, hp, hy'⟩ := h3 y (by omega)
        exact ⟨p, List.mem_append_right _ hp, hy'⟩

/-- A slot of the scratch array as a later load reads it. -/
theorem scratch_at {m : Memref sig .tc .vmem S16x128x128 .f32} (X : BufTy.Contents (Elt Ideal) m.view.ty) (T : ℕ → Start)
    (hX : ∀ y : S16x128x128.Idx, m.view.read (Elt Ideal) X y = T (15 - (y 0).val) (y 1) (y 2))
    (off : Fin 3 → ℕ) (inb : ∀ a, off a + S1x128x128.size a ≤ S16x128x128.size a) (n : ℕ) (ho : off = ![n, 0, 0]) (d e : Fin 128) :
    (View.readAt (Elt Ideal) m.view (Rect.unit (s := S16x128x128) off S1x128x128.size inb).toLoadRect X) (ix3 0 d e)
      = T (15 - n) d e := by
  subst ho
  rw [View.readAt_apply, hX]
  have e0 : ((Rect.unit (s := S16x128x128) ![n, 0, 0] S1x128x128.size inb).toLoadRect.idx (ix3 0 d e) 0).val = n := by simp [ix3]
  have e1 : (Rect.unit (s := S16x128x128) ![n, 0, 0] S1x128x128.size inb).toLoadRect.idx (ix3 0 d e) 1 = d := Fin.ext (by simp [ix3])
  have e2 : (Rect.unit (s := S16x128x128) ![n, 0, 0] S1x128x128.size inb).toLoadRect.idx (ix3 0 d e) 2 = e := Fin.ext (by simp [ix3])
  rw [e0, e1, e2]

/-- A chunk's load of the gate's rows. -/
theorem gate_at {m : Memref sig .tc .vmem S4096x128 .f32} (h : m.IsWhole) (x : Vec Ideal S4096x128 .f32) (off : Fin 2 → ℕ)
    (inb : ∀ a, off a + S256x128.size a ≤ S4096x128.size a) (n : ℕ) (ho : off = ![256 * n, 0]) (b : Fin 256) (d : Fin 128)
    (hb : 256 * n + (b : ℕ) < 4096) :
    (View.readAt (Elt Ideal) m.view (Rect.unit (s := S4096x128) off S256x128.size inb).toLoadRect (h.unread x)) (ix2 b d)
      = x (ix2 ⟨256 * n + b, hb⟩ d) := by
  subst ho
  rw [View.readAt_apply, Memref.IsWhole.read_unread]
  refine congrArg x (funext fun a => ?_)
  match a with
  | ⟨0, _⟩ => exact Fin.ext (by simp [ix2])
  | ⟨1, _⟩ => exact Fin.ext (by simp [ix2])

/-- What the body stores for a row and a column of its block. -/
def rowOut (lf lb sc : ℝ) (Q K V : Rows) (sf sb : Start) (v15 : FVec Ideal S1x128 .f32) (x3 : Vec Ideal S4096x128 .f32)
    (y : S4096x128.Idx) : EReal :=
  post (fun e => chunkedFrom lf lb sc Q K V sf sb ((y 0).val / 256) ((y 0).val % 256) e)
    (v15 (ix2 0 (y 1))) (x3 y) (y 1)

/-- A chunk of rows lies where its number says. -/
theorem mem_chunk (off : Fin 2 → ℕ) (inb : ∀ a, off a + S256x128.size a ≤ S4096x128.size a) (n : ℕ) (ho : off = ![256 * n, 0])
    (y : S4096x128.Idx) (hy : (y 0).val / 256 = n) : y ∈ (Rect.unit (s := S4096x128) off S256x128.size inb).set := by
  subst ho
  rw [Rect.mem_set_unit]
  intro a
  match a with
  | ⟨0, _⟩ => exact ⟨by simp; omega, by simp [S256x128]; omega⟩
  | ⟨1, _⟩ => exact ⟨by simp, by simpa [S256x128] using (y 1).isLt⟩

/-- A chunk's stored rows, at the place of the array they go to. -/
theorem chunk_out (lf lb sc : ℝ) (Q K V : Rows) (sf sb : Start) (v15 : FVec Ideal S1x128 .f32) (x3 : Vec Ideal S4096x128 .f32)
    (w gx : FVec Ideal S256x128 .f32) (off : Fin 2 → ℕ)
    (inb : ∀ a, off a + S256x128.size a ≤ S4096x128.size a) (n : ℕ) (ho : off = ![256 * n, 0])
    (hw : ∀ (a : Fin 256) (e : Fin 128), w (ix2 a e)
      = post (fun e => chunkedFrom lf lb sc Q K V sf sb n a e) (v15 (ix2 0 e)) (gx (ix2 a e)) e)
    (hg : ∀ (a : Fin 256) (d : Fin 128) (hb : 256 * n + (a : ℕ) < 4096), gx (ix2 a d) = x3 (ix2 ⟨256 * n + a, hb⟩ d))
    (p : View.Piece (Elt Ideal) S4096x128 .f32) (hp : p = ⟨Rect.unit (s := S4096x128) off S256x128.size inb, w⟩)
    (x : p.1.shape.Idx) : p.2 x = rowOut lf lb sc Q K V sf sb v15 x3 (p.1.emb x) := by
  subst ho hp
  change S256x128.Idx at x
  show w x = rowOut lf lb sc Q K V sf sb v15 x3 ((Rect.unit (s := S4096x128) ![256 * n, 0] S256x128.size inb).emb x)
  obtain ⟨a, e, rfl⟩ : ∃ (a : Fin 256) (e : Fin 128), x = ix2 a e := ⟨x 0, x 1, eq_ix2 x⟩
  have hb : 256 * n + (a : ℕ) < 4096 := by have := inb 0; simp [S4096x128, S256x128] at this; omega
  have he : (Rect.unit (s := S4096x128) ![256 * n, 0] S256x128.size inb).emb (ix2 a e) = ix2 ⟨256 * n + (a : ℕ), hb⟩ e := by
    funext u
    match u with
    | ⟨0, _⟩ => exact Fin.ext (show 256 * n + 1 * (a : ℕ) = 256 * n + a by omega)
    | ⟨1, _⟩ => exact Fin.ext (show 0 + 1 * (e : ℕ) = e by omega)
  rw [he, hw, hg _ _ hb, rowOut]
  have e0 : (ix2 (⟨256 * n + (a : ℕ), hb⟩ : Fin 4096) e 0).val = 256 * n + a := rfl
  rw [e0, show (256 * n + (a : ℕ)) / 256 = n by omega, show (256 * n + (a : ℕ)) % 256 = a by omega]
  rfl

/-- What one trip of the forward loop stores. -/
theorem trip_stores {v1 : FVec Ideal S256x256 .f32} {v3 v5 v7 : FVec Ideal S256x128 .f32} {v11 v15 : FVec Ideal S1x128 .f32} (X2 : BufTy.Contents (Elt Ideal) arg2.view.ty) (X3 : BufTy.Contents (Elt Ideal) arg3.view.ty)
    (X4 : BufTy.Contents (Elt Ideal) arg4.view.ty) (X5 : BufTy.Contents (Elt Ideal) arg5.view.ty)
    (X15 : BufTy.Contents (Elt Ideal) arg15.view.ty) (k : Fin k0_t2_loop.trips) (acc : FVec Ideal S128x128 .f32) :
    tripL_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 v1 v3 v5 v7 v11 v15 X2 X3 X4 X5 X15 k acc
      = [⟨Rect.unit (s := S4096x128) (k0_off3 k) S256x128.size (k0_off3_inb k),
          k0_pay3 v15
            (k0_pay6 v1 v3 v7 acc (View.readAt (Elt Ideal) arg2.view (Rect.unit (s := S4096x128) (k0_off3 k) S256x128.size (k0_off3_inb k)).toLoadRect X2) (View.readAt (Elt Ideal) arg3.view (Rect.unit (s := S4096x128) (k0_off3 k) S256x128.size (k0_off3_inb k)).toLoadRect X3) (View.readAt (Elt Ideal) arg4.view (Rect.unit (s := S4096x128) (k0_off3 k) S256x128.size (k0_off3_inb k)).toLoadRect X4) (View.readAt (Elt Ideal) arg15.view (Rect.unit (s := S16x128x128) (k0_off4 k) S1x128x128.size (k0_off4_inb k)).toLoadRect X15))
            (k0_pay7 v1 v3 v7 acc (View.readAt (Elt Ideal) arg2.view (Rect.unit (s := S4096x128) (k0_off3 k) S256x128.size (k0_off3_inb k)).toLoadRect X2) (View.readAt (Elt Ideal) arg3.view (Rect.unit (s := S4096x128) (k0_off3 k) S256x128.size (k0_off3_inb k)).toLoadRect X3) (View.readAt (Elt Ideal) arg4.view (Rect.unit (s := S4096x128) (k0_off3 k) S256x128.size (k0_off3_inb k)).toLoadRect X4) (View.readAt (Elt Ideal) arg15.view (Rect.unit (s := S16x128x128) (k0_off4 k) S1x128x128.size (k0_off4_inb k)).toLoadRect X15))
            (View.readAt (Elt Ideal) arg5.view (Rect.unit (s := S4096x128) (k0_off3 k) S256x128.size (k0_off3_inb k)).toLoadRect X5)⟩] := by
  unfold tripL_k0_t2 trip_k0_t2
  rfl

/-- The forward loop after `k` trips: its state, and the rows it has stored. -/
theorem front_loop {v1 : FVec Ideal S256x256 .f32} {v3 v5 v7 : FVec Ideal S256x128 .f32} {v11 v15 : FVec Ideal S1x128 .f32} {init : FVec Ideal S128x128 .f32}
    {x0 x1 x2 x3 : Vec Ideal S4096x128 .f32} {X15 : BufTy.Contents (Elt Ideal) arg15.view.ty} {lf lb sc : ℝ} {sf sb : Start} {Q K V : Rows}
    (h1 : ∀ a b, v1 (ix2 a b) = (decay lf lb (a : Fin 256) (b : Fin 256) * sc : ℝ))
    (h3 : ∀ b d, v3 (ix2 b d) = (Real.exp (lf * (((b : Fin 256) : ℕ) + 1)) * sc : ℝ))
    (h5 : ∀ b d, v5 (ix2 b d) = (Real.exp (lf * (255 - ((b : Fin 256) : ℕ))) : ℝ))
    (h7 : ∀ b d, v7 (ix2 b d) = (Real.exp (lb * (256 - ((b : Fin 256) : ℕ))) * sc : ℝ))
    (h11 : ∀ e, v11 (ix2 0 e) = (Real.exp (lf * 256) : EReal))
    (hX : ∀ y : S16x128x128.Idx, arg15.view.read (Elt Ideal) X15 y = bwdFrom lb K V sb (15 - (y 0).val) (y 1) (y 2))
    (hi : ∀ d e, init (ix2 d e) = sf d e) (hq : ∀ r d, x0 (ix2 r d) = (Q (r : Fin 4096) d : EReal))
    (hk : ∀ r d, x1 (ix2 r d) = (K (r : Fin 4096) d : EReal))
    (hv : ∀ r d, x2 (ix2 r d) = (V (r : Fin 4096) d : EReal)) (k : ℕ) (hk16 : k ≤ 16) :
    (∀ d e, (st_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 v1 v3 v5 v7 v11 v15 (harg2.unread x0) (harg3.unread x1) (harg4.unread x2) (harg5.unread x3) X15 init k).1 (ix2 d e) = fwdFrom lf K V sf k d e)
    ∧ (∀ p ∈ (st_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 v1 v3 v5 v7 v11 v15 (harg2.unread x0) (harg3.unread x1) (harg4.unread x2) (harg5.unread x3) X15 init k).2, ∀ x : p.1.shape.Idx, p.2 x = rowOut lf lb sc Q K V sf sb v15 x3 (p.1.emb x))
    ∧ (∀ y : S4096x128.Idx, (y 0).val / 256 < k → ∃ p ∈ (st_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 v1 v3 v5 v7 v11 v15 (harg2.unread x0) (harg3.unread x1) (harg4.unread x2) (harg5.unread x3) X15 init k).2, y ∈ p.1.set) := by
  induction k with
  | zero => exact ⟨fun d e => (hi d e).trans (fwdFrom_zero lf K V sf d e).symm, fun p hp => absurd hp List.not_mem_nil, fun y hy => by omega⟩
  | succ k ih =>
    obtain ⟨g1, g2, g3⟩ := ih (by omega)
    have hkt : k < k0_t2_loop.trips := by rw [trips2]; omega
    rw [st_k0_t2_succ Variants.none c none i arg2 harg2 arg3 harg3 arg4 harg4 arg5 harg5 arg6 harg6 arg7 harg7 arg8 harg8 arg9 harg9 arg10 harg10 arg11 harg11 arg12 harg12 arg13 harg13 arg14 harg14 arg15 harg15 v1 v3 v5 v7 v11 v15 (harg2.unread x0) (harg3.unread x1) (harg4.unread x2) (harg5.unread x3) X15 init ⟨k, hkt⟩]
    refine ⟨fun d e => ?_, fun p hp x => ?_, fun y hy => ?_⟩
    · unfold tripR_k0_t2 trip_k0_t2
      refine (pay4_at (w := fun b => Real.exp (lf * (255 - b))) (K := fun b => K (256 * k + b)) (V := fun b => V (256 * k + b)) h5 h11 g1
        (chunk_at harg3 x1 _ (k0_off3_inb ⟨k, hkt⟩) k (off3_eq ⟨k, hkt⟩) K hk) (chunk_at harg4 x2 _ (k0_off3_inb ⟨k, hkt⟩) k (off3_eq ⟨k, hkt⟩) V hv) d e).trans (fwdFrom_succ lf K V sf k d e)
    · rcases List.mem_append.1 hp with hp | hp
      · rw [trip_stores] at hp
        have hp' := List.mem_singleton.1 hp
        refine chunk_out lf lb sc Q K V sf sb v15 x3 _
          (View.readAt (Elt Ideal) arg5.view (Rect.unit (s := S4096x128) (k0_off3 ⟨k, hkt⟩) S256x128.size (k0_off3_inb ⟨k, hkt⟩)).toLoadRect (harg5.unread x3))
          _ (k0_off3_inb ⟨k, hkt⟩) k (off3_eq ⟨k, hkt⟩) (fun a e => ?_)
          (fun a d hb => gate_at harg5 x3 _ (k0_off3_inb ⟨k, hkt⟩) k (off3_eq ⟨k, hkt⟩) a d hb) p hp' x
        exact pay3_at (mk := fun a b => decay lf lb a b * sc) (wf := fun a => Real.exp (lf * (a + 1)) * sc)
          (wb := fun a => Real.exp (lb * (256 - a)) * sc) (Q := fun b => Q (256 * k + b)) (K := fun b => K (256 * k + b))
          (V := fun b => V (256 * k + b)) h1 h3 h7 g1 (scratch_at X15 (bwdFrom lb K V sb) hX _ (k0_off4_inb ⟨k, hkt⟩) k (off4_eq ⟨k, hkt⟩))
          (chunk_at harg2 x0 _ (k0_off3_inb ⟨k, hkt⟩) k (off3_eq ⟨k, hkt⟩) Q hq)
          (chunk_at harg3 x1 _ (k0_off3_inb ⟨k, hkt⟩) k (off3_eq ⟨k, hkt⟩) K hk)
          (chunk_at harg4 x2 _ (k0_off3_inb ⟨k, hkt⟩) k (off3_eq ⟨k, hkt⟩) V hv) a e
      · exact g2 p hp x
    · by_cases h : (y 0).val / 256 = k
      · rw [trip_stores]
        exact ⟨_, List.mem_append_left _ (List.mem_singleton.2 rfl), mem_chunk _ (k0_off3_inb ⟨k, hkt⟩) k (off3_eq ⟨k, hkt⟩) y h⟩
      · obtain ⟨p, hp, hy'⟩ := g3 y (by omega)
        exact ⟨p, List.mem_append_right _ hp, hy'⟩
-- ==== Proof.RetOut.lean ====
module

public import proofs.«01_k».proof.Proof.RetLoops
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Ret Retention

/-! What the body leaves in its block of the result, from what its input blocks hold. -/

/-- The weights of a chunk, loaded. -/
theorem slab_at {m : Memref sig .tc .vmem S1x256x256 .f32} (h : m.IsWhole) (x : Vec Ideal S1x256x256 .f32)
    (inb : ∀ a, ![0, 0, 0] a + ![1, 256, 256] a ≤ S1x256x256.size a) (a b : Fin 256) :
    k0_pay8 (View.readAt (Elt Ideal) m.view (Rect.unit (s := S1x256x256) ![0, 0, 0] ![1, 256, 256] inb).toLoadRect (h.unread x)) (ix2 a b) = x (ix3 0 a b) := by
  refine (show _ = (View.readAt (Elt Ideal) m.view (Rect.unit (s := S1x256x256) ![0, 0, 0] ![1, 256, 256] inb).toLoadRect (h.unread x)) (ix3 0 a b) from ?_).trans ?_
  · unfold k0_pay8
    pointwise
  rw [View.readAt_apply, Memref.IsWhole.read_unread]
  refine congrArg x (funext fun a => ?_)
  match a with
  | ⟨0, _⟩ => exact Fin.ext (by simp [ix3])
  | ⟨1, _⟩ => exact Fin.ext (by simp [ix3])
  | ⟨2, _⟩ => exact Fin.ext (by simp [ix3])

/-- A ladder of a chunk, loaded. -/
theorem ladder0_at {m : Memref sig .tc .vmem S1x4x256x128 .f32} (h : m.IsWhole) (x : Vec Ideal S1x4x256x128 .f32)
    (inb : ∀ a, ![0, 0, 0, 0] a + ![1, 1, 256, 128] a ≤ S1x4x256x128.size a) (a : Fin 256) (d : Fin 128) :
    k0_pay9 (View.readAt (Elt Ideal) m.view (Rect.unit (s := S1x4x256x128) ![0, 0, 0, 0] ![1, 1, 256, 128] inb).toLoadRect (h.unread x)) (ix2 a d) = x (ix4 0 0 a d) := by
  refine (show _ = (View.readAt (Elt Ideal) m.view (Rect.unit (s := S1x4x256x128) ![0, 0, 0, 0] ![1, 1, 256, 128] inb).toLoadRect (h.unread x)) (ix4 0 0 a d) from ?_).trans ?_
  · unfold k0_pay9
    pointwise
  rw [View.readAt_apply, Memref.IsWhole.read_unread]
  refine congrArg x (funext fun a => ?_)
  match a with
  | ⟨0, _⟩ => exact Fin.ext (by simp [ix4])
  | ⟨1, _⟩ => exact Fin.ext (by simp [ix4])
  | ⟨2, _⟩ => exact Fin.ext (by simp [ix4])
  | ⟨3, _⟩ => exact Fin.ext (by simp [ix4])

/-- A ladder of a chunk, loaded. -/
theorem ladder1_at {m : Memref sig .tc .vmem S1x4x256x128 .f32} (h : m.IsWhole) (x : Vec Ideal S1x4x256x128 .f32)
    (inb : ∀ a, ![0, 1, 0, 0] a + ![1, 1, 256, 128] a ≤ S1x4x256x128.size a) (a : Fin 256) (d : Fin 128) :
    k0_pay10 (View.readAt (Elt Ideal) m.view (Rect.unit (s := S1x4x256x128) ![0, 1, 0, 0] ![1, 1, 256, 128] inb).toLoadRect (h.unread x)) (ix2 a d) = x (ix4 0 1 a d) := by
  refine (show _ = (View.readAt (Elt Ideal) m.view (Rect.unit (s := S1x4x256x128) ![0, 1, 0, 0] ![1, 1, 256, 128] inb).toLoadRect (h.unread x)) (ix4 0 0 a d) from ?_).trans ?_
  · unfold k0_pay10
    pointwise
  rw [View.readAt_apply, Memref.IsWhole.read_unread]
  refine congrArg x (funext fun a => ?_)
  match a with
  | ⟨0, _⟩ => exact Fin.ext (by simp [ix4])
  | ⟨1, _⟩ => exact Fin.ext (by simp [ix4])
  | ⟨2, _⟩ => exact Fin.ext (by simp [ix4])
  | ⟨3, _⟩ => exact Fin.ext (by simp [ix4])

/-- A ladder of a chunk, loaded. -/
theorem ladder2_at {m : Memref sig .tc .vmem S1x4x256x128 .f32} (h : m.IsWhole) (x : Vec Ideal S1x4x256x128 .f32)
    (inb : ∀ a, ![0, 2, 0, 0] a + ![1, 1, 256, 128] a ≤ S1x4x256x128.size a) (a : Fin 256) (d : Fin 128) :
    k0_pay11 (View.readAt (Elt Ideal) m.view (Rect.unit (s := S1x4x256x128) ![0, 2, 0, 0] ![1, 1, 256, 128] inb).toLoadRect (h.unread x)) (ix2 a d) = x (ix4 0 2 a d) := by
  refine (show _ = (View.readAt (Elt Ideal) m.view (Rect.unit (s := S1x4x256x128) ![0, 2, 0, 0] ![1, 1, 256, 128] inb).toLoadRect (h.unread x)) (ix4 0 0 a d) from ?_).trans ?_
  · unfold k0_pay11
    pointwise
  rw [View.readAt_apply, Memref.IsWhole.read_unread]
  refine congrArg x (funext fun a => ?_)
  match a with
  | ⟨0, _⟩ => exact Fin.ext (by simp [ix4])
  | ⟨1, _⟩ => exact Fin.ext (by simp [ix4])
  | ⟨2, _⟩ => exact Fin.ext (by simp [ix4])
  | ⟨3, _⟩ => exact Fin.ext (by simp [ix4])

/-- A ladder of a chunk, loaded. -/
theorem ladder3_at {m : Memref sig .tc .vmem S1x4x256x128 .f32} (h : m.IsWhole) (x : Vec Ideal S1x4x256x128 .f32)
    (inb : ∀ a, ![0, 3, 0, 0] a + ![1, 1, 256, 128] a ≤ S1x4x256x128.size a) (a : Fin 256) (d : Fin 128) :
     (View.readAt (Elt Ideal) m.view (Rect.unit (s := S1x4x256x128) ![0, 3, 0, 0] ![1, 1, 256, 128] inb).toLoadRect (h.unread x)) (ix4 0 0 a d) = x (ix4 0 3 a d) := by
  rw [View.readAt_apply, Memref.IsWhole.read_unread]
  refine congrArg x (funext fun a => ?_)
  match a with
  | ⟨0, _⟩ => exact Fin.ext (by simp [ix4])
  | ⟨1, _⟩ => exact Fin.ext (by simp [ix4])
  | ⟨2, _⟩ => exact Fin.ext (by simp [ix4])
  | ⟨3, _⟩ => exact Fin.ext (by simp [ix4])

/-- A carry of a chunk, loaded. -/
theorem carry0_at {m : Memref sig .tc .vmem S1x2x8x128 .f32} (h : m.IsWhole) (x : Vec Ideal S1x2x8x128 .f32)
    (inb : ∀ a, ![0, 0, 0, 0] a + ![1, 1, 1, 128] a ≤ S1x2x8x128.size a) (d : Fin 128) :
    k0_pay12 (View.readAt (Elt Ideal) m.view (Rect.unit (s := S1x2x8x128) ![0, 0, 0, 0] ![1, 1, 1, 128] inb).toLoadRect (h.unread x)) (ix2 0 d) = x (ix4 0 0 0 d) := by
  refine (show _ = (View.readAt (Elt Ideal) m.view (Rect.unit (s := S1x2x8x128) ![0, 0, 0, 0] ![1, 1, 1, 128] inb).toLoadRect (h.unread x)) (ix4 0 0 0 d) from ?_).trans ?_
  · unfold k0_pay12
    pointwise
  rw [View.readAt_apply, Memref.IsWhole.read_unread]
  refine congrArg x (funext fun a => ?_)
  match a with
  | ⟨0, _⟩ => exact Fin.ext (by simp [ix4])
  | ⟨1, _⟩ => exact Fin.ext (by simp [ix4])
  | ⟨2, _⟩ => exact Fin.ext (by simp [ix4])
  | ⟨3, _⟩ => exact Fin.ext (by simp [ix4])

/-- A carry of a chunk, loaded. -/
theorem carry1_at {m : Memref sig .tc .vmem S1x2x8x128 .f32} (h : m.IsWhole) (x : Vec Ideal S1x2x8x128 .f32)
    (inb : ∀ a, ![0, 1, 0, 0] a + ![1, 1, 1, 128] a ≤ S1x2x8x128.size a) (d : Fin 128) :
     (View.readAt (Elt Ideal) m.view (Rect.unit (s := S1x2x8x128) ![0, 1, 0, 0] ![1, 1, 1, 128] inb).toLoadRect (h.unread x)) (ix4 0 0 0 d) = x (ix4 0 1 0 d) := by
  rw [View.readAt_apply, Memref.IsWhole.read_unread]
  refine congrArg x (funext fun a => ?_)
  match a with
  | ⟨0, _⟩ => exact Fin.ext (by simp [ix4])
  | ⟨1, _⟩ => exact Fin.ext (by simp [ix4])
  | ⟨2, _⟩ => exact Fin.ext (by simp [ix4])
  | ⟨3, _⟩ => exact Fin.ext (by simp [ix4])

/-- The gains, loaded. -/
theorem gains_at {m : Memref sig .tc .vmem S1x128 .f32} (h : m.IsWhole) (x : Vec Ideal S1x128 .f32)
    (inb : ∀ a, ![0, 0] a + ![1, 128] a ≤ S1x128.size a) (d : Fin 128) :
    k0_pay13 (View.readAt (Elt Ideal) m.view (Rect.unit (s := S1x128) ![0, 0] ![1, 128] inb).toLoadRect (h.unread x)) (ix2 0 d) = x (ix2 0 d) := by
  refine (show _ = (View.readAt (Elt Ideal) m.view (Rect.unit (s := S1x128) ![0, 0] ![1, 128] inb).toLoadRect (h.unread x)) (ix2 0 d) from ?_).trans ?_
  · unfold k0_pay13
    pointwise
  rw [View.readAt_apply, Memref.IsWhole.read_unread]
  refine congrArg x (funext fun a => ?_)
  match a with
  | ⟨0, _⟩ => exact Fin.ext (by simp [ix2])
  | ⟨1, _⟩ => exact Fin.ext (by simp [ix2])

/-- A start state, loaded. -/
theorem start_back_at {m : Memref sig .tc .vmem S1x1x128x128 .f32} (h : m.IsWhole) (x : Vec Ideal S1x1x128x128 .f32)
    (inb : ∀ a, ![0, 0, 0, 0] a + ![1, 1, 128, 128] a ≤ S1x1x128x128.size a) (d e : Fin 128) :
    k0_pay14 (View.readAt (Elt Ideal) m.view (Rect.unit (s := S1x1x128x128) ![0, 0, 0, 0] ![1, 1, 128, 128] inb).toLoadRect (h.unread x)) (ix2 d e) = x (ix4 0 0 d e) := by
  refine (show _ = (View.readAt (Elt Ideal) m.view (Rect.unit (s := S1x1x128x128) ![0, 0, 0, 0] ![1, 1, 128, 128] inb).toLoadRect (h.unread x)) (ix4 0 0 d e) from ?_).trans ?_
  · unfold k0_pay14
    pointwise
  rw [View.readAt_apply, Memref.IsWhole.read_unread]
  refine congrArg x (funext fun a => ?_)
  match a with
  | ⟨0, _⟩ => exact Fin.ext (by simp [ix4])
  | ⟨1, _⟩ => exact Fin.ext (by simp [ix4])
  | ⟨2, _⟩ => exact Fin.ext (by simp [ix4])
  | ⟨3, _⟩ => exact Fin.ext (by simp [ix4])

/-- A start state, loaded. -/
theorem start_front_at {m : Memref sig .tc .vmem S1x1x128x128 .f32} (h : m.IsWhole) (x : Vec Ideal S1x1x128x128 .f32)
    (inb : ∀ a, ![0, 0, 0, 0] a + ![1, 1, 128, 128] a ≤ S1x1x128x128.size a) (d e : Fin 128) :
    k0_pay2 (View.readAt (Elt Ideal) m.view (Rect.unit (s := S1x1x128x128) ![0, 0, 0, 0] ![1, 1, 128, 128] inb).toLoadRect (h.unread x)) (ix2 d e) = x (ix4 0 0 d e) := by
  refine (show _ = (View.readAt (Elt Ideal) m.view (Rect.unit (s := S1x1x128x128) ![0, 0, 0, 0] ![1, 1, 128, 128] inb).toLoadRect (h.unread x)) (ix4 0 0 d e) from ?_).trans ?_
  · unfold k0_pay2
    pointwise
  rw [View.readAt_apply, Memref.IsWhole.read_unread]
  refine congrArg x (funext fun a => ?_)
  match a with
  | ⟨0, _⟩ => exact Fin.ext (by simp [ix4])
  | ⟨1, _⟩ => exact Fin.ext (by simp [ix4])
  | ⟨2, _⟩ => exact Fin.ext (by simp [ix4])
  | ⟨3, _⟩ => exact Fin.ext (by simp [ix4])

section

variable {c : Dev nD} {i : grid0.Coords} {arg2 : Memref sig .tc .vmem S4096x128 .f32} {harg2 : arg2.IsWhole} {arg3 : Memref sig .tc .vmem S4096x128 .f32} {harg3 : arg3.IsWhole} {arg4 : Memref sig .tc .vmem S4096x128 .f32} {harg4 : arg4.IsWhole} {arg5 : Memref sig .tc .vmem S4096x128 .f32} {harg5 : arg5.IsWhole} {arg6 : Memref sig .tc .vmem S1x256x256 .f32} {harg6 : arg6.IsWhole} {arg7 : Memref sig .tc .vmem S1x4x256x128 .f32} {harg7 : arg7.IsWhole} {arg8 : Memref sig .tc .vmem S1x2x8x128 .f32} {harg8 : arg8.IsWhole} {arg9 : Memref sig .tc .vmem S1x128 .f32} {harg9 : arg9.IsWhole} {arg10 : Memref sig .tc .vmem S1x1x128x128 .f32} {harg10 : arg10.IsWhole} {arg11 : Memref sig .tc .vmem S1x1x128x128 .f32} {harg11 : arg11.IsWhole} {arg12 : Memref sig .tc .vmem S4096x128 .f32} {harg12 : arg12.IsWhole} {arg13 : Memref sig .tc .vmem S1x1x128x128 .f32} {harg13 : arg13.IsWhole} {arg14 : Memref sig .tc .vmem S1x1x128x128 .f32} {harg14 : arg14.IsWhole} {arg15 : Memref sig .tc .vmem S16x128x128 .f32} {harg15 : arg15.IsWhole}
  {x0 x1 x2 x3 : Vec Ideal S4096x128 .f32} {x4 : Vec Ideal S1x256x256 .f32} {x5 : Vec Ideal S1x4x256x128 .f32}
  {x6 : Vec Ideal S1x2x8x128 .f32} {x7 : Vec Ideal S1x128 .f32} {x8 x9 : Vec Ideal S1x1x128x128 .f32}

/-- The stores of the body to the result are those of its second loop. -/
theorem stores_eq : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).1 = (st_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 (k0_pay8 (View.readAt (Elt Ideal) arg6.view (Rect.unit (s := S1x256x256) ![0, 0, 0] ![1, 256, 256] (by decide)).toLoadRect (harg6.unread x4))) (k0_pay9 (View.readAt (Elt Ideal) arg7.view (Rect.unit (s := S1x4x256x128) ![0, 0, 0, 0] ![1, 1, 256, 128] (by decide)).toLoadRect (harg7.unread x5))) (k0_pay10 (View.readAt (Elt Ideal) arg7.view (Rect.unit (s := S1x4x256x128) ![0, 1, 0, 0] ![1, 1, 256, 128] (by decide)).toLoadRect (harg7.unread x5))) (k0_pay11 (View.readAt (Elt Ideal) arg7.view (Rect.unit (s := S1x4x256x128) ![0, 2, 0, 0] ![1, 1, 256, 128] (by decide)).toLoadRect (harg7.unread x5))) (k0_pay12 (View.readAt (Elt Ideal) arg8.view (Rect.unit (s := S1x2x8x128) ![0, 0, 0, 0] ![1, 1, 1, 128] (by decide)).toLoadRect (harg8.unread x6))) (k0_pay13 (View.readAt (Elt Ideal) arg9.view (Rect.unit (s := S1x128) ![0, 0] ![1, 128] (by decide)).toLoadRect (harg9.unread x7))) (harg2.unread x0) (harg3.unread x1) (harg4.unread x2) (harg5.unread x3) (arg15.view.writes (Elt Ideal) arg15.view.junk (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg7.view (Rect.unit (s := S1x4x256x128) ![0, 3, 0, 0] ![1, 1, 256, 128] (by decide)).toLoadRect (harg7.unread x5)) (View.readAt (Elt Ideal) arg8.view (Rect.unit (s := S1x2x8x128) ![0, 1, 0, 0] ![1, 1, 1, 128] (by decide)).toLoadRect (harg8.unread x6)) (harg3.unread x1) (harg4.unread x2) (k0_pay14 (View.readAt (Elt Ideal) arg11.view (Rect.unit (s := S1x1x128x128) ![0, 0, 0, 0] ![1, 1, 128, 128] (by decide)).toLoadRect (harg11.unread x9))) 16).2) (k0_pay2 (View.readAt (Elt Ideal) arg10.view (Rect.unit (s := S1x1x128x128) ![0, 0, 0, 0] ![1, 1, 128, 128] (by decide)).toLoadRect (harg10.unread x8))) 16).2 := by
  unfold kernelRun0_A
  dsimp only
  rfl

/-- The block: every row and column the body leaves in its block of the result. -/
theorem block_at {lf lb sc : ℝ} {Q K V : Rows} {sf sb : Start}
    (h0 : ∀ r d, x0 (ix2 r d) = (Q (r : Fin 4096) d : EReal)) (h1 : ∀ r d, x1 (ix2 r d) = (K (r : Fin 4096) d : EReal))
    (h2 : ∀ r d, x2 (ix2 r d) = (V (r : Fin 4096) d : EReal))
    (h4 : ∀ a b, x4 (ix3 0 a b) = ((decay lf lb (a : Fin 256) (b : Fin 256) * sc : ℝ) : EReal))
    (h50 : ∀ a d, x5 (ix4 0 0 a d) = ((Real.exp (lf * (((a : Fin 256) : ℕ) + 1)) * sc : ℝ) : EReal))
    (h51 : ∀ a d, x5 (ix4 0 1 a d) = ((Real.exp (lf * (255 - ((a : Fin 256) : ℕ))) : ℝ) : EReal))
    (h52 : ∀ a d, x5 (ix4 0 2 a d) = ((Real.exp (lb * (256 - ((a : Fin 256) : ℕ))) * sc : ℝ) : EReal))
    (h53 : ∀ a d, x5 (ix4 0 3 a d) = ((Real.exp (lb * ((a : Fin 256) : ℕ)) : ℝ) : EReal))
    (h60 : ∀ d, x6 (ix4 0 0 0 d) = ((Real.exp (lf * 256) : ℝ) : EReal))
    (h61 : ∀ d, x6 (ix4 0 1 0 d) = ((Real.exp (lb * 256) : ℝ) : EReal))
    (h8 : ∀ d e, x8 (ix4 0 0 d e) = sf d e) (h9 : ∀ d e, x9 (ix4 0 0 d e) = sb d e)
    (r : Fin 4096) (e : Fin 128) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 (ix2 r e)
      = post (fun e => denseFrom lf lb sc Q K V sf sb r e) (x7 (ix2 0 e)) (x3 (ix2 r e)) e := by
  have hr := r.isLt
  obtain ⟨-, b2, b3⟩ := back_loop (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15)
    (v8 := (View.readAt (Elt Ideal) arg7.view (Rect.unit (s := S1x4x256x128) ![0, 3, 0, 0] ![1, 1, 256, 128] (by decide)).toLoadRect (harg7.unread x5))) (v12 := (View.readAt (Elt Ideal) arg8.view (Rect.unit (s := S1x2x8x128) ![0, 1, 0, 0] ![1, 1, 1, 128] (by decide)).toLoadRect (harg8.unread x6))) (init := k0_pay14 (View.readAt (Elt Ideal) arg11.view (Rect.unit (s := S1x1x128x128) ![0, 0, 0, 0] ![1, 1, 128, 128] (by decide)).toLoadRect (harg11.unread x9)))
    (fun a d => (ladder3_at harg7 x5 _ a d).trans (h53 a d)) (fun d => (carry1_at harg8 x6 _ d).trans (h61 d))
    (fun d e => (start_back_at harg11 x9 _ d e).trans (h9 d e)) h1 h2 16 le_rfl
  have hX : ∀ y : S16x128x128.Idx, arg15.view.read (Elt Ideal) (arg15.view.writes (Elt Ideal) arg15.view.junk (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg7.view (Rect.unit (s := S1x4x256x128) ![0, 3, 0, 0] ![1, 1, 256, 128] (by decide)).toLoadRect (harg7.unread x5)) (View.readAt (Elt Ideal) arg8.view (Rect.unit (s := S1x2x8x128) ![0, 1, 0, 0] ![1, 1, 1, 128] (by decide)).toLoadRect (harg8.unread x6)) (harg3.unread x1) (harg4.unread x2) (k0_pay14 (View.readAt (Elt Ideal) arg11.view (Rect.unit (s := S1x1x128x128) ![0, 0, 0, 0] ![1, 1, 128, 128] (by decide)).toLoadRect (harg11.unread x9))) 16).2) y = bwdFrom lb K V sb (15 - (y 0).val) (y 1) (y 2) := fun y =>
    View.read_writes_apply_of_pieces arg15.view _ (fun y : S16x128x128.Idx => bwdFrom lb K V sb (15 - (y 0).val) (y 1) (y 2)) _ b2 y (b3 y (by omega))
  obtain ⟨-, f2, f3⟩ := front_loop (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15)
    (v1 := k0_pay8 (View.readAt (Elt Ideal) arg6.view (Rect.unit (s := S1x256x256) ![0, 0, 0] ![1, 256, 256] (by decide)).toLoadRect (harg6.unread x4))) (v3 := k0_pay9 (View.readAt (Elt Ideal) arg7.view (Rect.unit (s := S1x4x256x128) ![0, 0, 0, 0] ![1, 1, 256, 128] (by decide)).toLoadRect (harg7.unread x5))) (v5 := k0_pay10 (View.readAt (Elt Ideal) arg7.view (Rect.unit (s := S1x4x256x128) ![0, 1, 0, 0] ![1, 1, 256, 128] (by decide)).toLoadRect (harg7.unread x5))) (v7 := k0_pay11 (View.readAt (Elt Ideal) arg7.view (Rect.unit (s := S1x4x256x128) ![0, 2, 0, 0] ![1, 1, 256, 128] (by decide)).toLoadRect (harg7.unread x5))) (v11 := k0_pay12 (View.readAt (Elt Ideal) arg8.view (Rect.unit (s := S1x2x8x128) ![0, 0, 0, 0] ![1, 1, 1, 128] (by decide)).toLoadRect (harg8.unread x6)))
    (v15 := k0_pay13 (View.readAt (Elt Ideal) arg9.view (Rect.unit (s := S1x128) ![0, 0] ![1, 128] (by decide)).toLoadRect (harg9.unread x7))) (init := k0_pay2 (View.readAt (Elt Ideal) arg10.view (Rect.unit (s := S1x1x128x128) ![0, 0, 0, 0] ![1, 1, 128, 128] (by decide)).toLoadRect (harg10.unread x8))) (x3 := x3)
    (fun a b => (slab_at harg6 x4 _ a b).trans (h4 a b)) (fun a d => (ladder0_at harg7 x5 _ a d).trans (h50 a d))
    (fun a d => (ladder1_at harg7 x5 _ a d).trans (h51 a d)) (fun a d => (ladder2_at harg7 x5 _ a d).trans (h52 a d))
    (fun d => (carry0_at harg8 x6 _ d).trans (h60 d)) hX (fun d e => (start_front_at harg10 x8 _ d e).trans (h8 d e)) h0 h1 h2 16 le_rfl
  unfold out0_A_10
  rw [stores_eq]
  refine (View.read_writes_apply_of_pieces VO0_10 _ _ _ f2 (ix2 r e) (f3 (ix2 r e) (show r.val / 256 < 16 by omega))).trans ?_
  show post (fun e => chunkedFrom lf lb sc Q K V sf sb (r.val / 256) (r.val % 256) e) (k0_pay13 (View.readAt (Elt Ideal) arg9.view (Rect.unit (s := S1x128) ![0, 0] ![1, 128] (by decide)).toLoadRect (harg9.unread x7)) (ix2 0 e)) (x3 (ix2 r e)) e = _
  rw [gains_at harg9 x7]
  refine congrArg (fun o => post o (x7 (ix2 0 e)) (x3 (ix2 r e)) e) (funext fun e => ?_)
  rw [chunkedFrom_eq lf lb sc Q K V sf sb _ _ (by omega) (Nat.mod_lt _ (by omega)) e, Nat.div_add_mod]

end

end Cert.KernelIdeal.Result
-- ==== Proof.RetRef.lean ====
module

public import proofs.«01_k».proof.Proof.RetTables
public import proofs.«01_k».proof.Proof.RetLoops
public import proofs.«01_k».proof.Proof.Gen.ReferenceIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceIdeal.Rows

open Cert.ReferenceIdeal Cert.ReferenceIdeal.Gen Cert.ReferenceIdeal.Read Retention
open Cert.KernelIdeal.Result (ofBits_scale ofBits_4096 scale sitofp_nat post)

/-! The reference, read at an index: each row attends to every row before it and every row after it, decayed, and to
the two start states. -/

variable (x0 : (⟨S16384x7168, .f32⟩ : BufTy).Contents (Elt Ideal)) (x1 : (⟨S2x4, .f32⟩ : BufTy).Contents (Elt Ideal))
  (x2 : (⟨S512, .f32⟩ : BufTy).Contents (Elt Ideal)) (x3 x4 : (⟨S4x4x128x128, .f32⟩ : BufTy).Contents (Elt Ideal))

theorem query_at (s : Fin 4) (i : Fin 4096) (h : Fin 4) (d : Fin 128) :
    val_main_v4 (F := Ideal) x0 (ix4 s i h d) = x0 (ix2 ⟨s * 4096 + i, by omega⟩ ⟨h * 128 + d, by omega⟩) * Ideal.ofBits .f32 0x3DB504F3#32 := by
  pointwise [val_main_v4, val_main_v3, val_main_v2, val_main_v1, val_main_v0, val_main_cst]

theorem key_at (s : Fin 4) (i : Fin 4096) (h : Fin 4) (d : Fin 128) :
    val_main_v6 (F := Ideal) x0 (ix4 s i h d) = x0 (ix2 ⟨s * 4096 + i, by omega⟩ ⟨512 + (h * 128 + d), by omega⟩) := by
  pointwise [val_main_v6, val_main_v5, val_main_v0]

theorem value_at (s : Fin 4) (i : Fin 4096) (h : Fin 4) (d : Fin 128) :
    val_main_v8 (F := Ideal) x0 (ix4 s i h d) = x0 (ix2 ⟨s * 4096 + i, by omega⟩ ⟨1024 + (h * 128 + d), by omega⟩) := by
  pointwise [val_main_v8, val_main_v7, val_main_v0]

theorem front_weight (lf : ℝ) (h : Fin 4) (hf : x1 (ix2 0 h) = (lf : EReal)) (i j : Fin 4096) :
    val_main_v30 (F := Ideal) x1 (ix3 h i j) = ((if (j : ℕ) ≤ i then Real.exp (lf * ((i : ℕ) - (j : ℕ))) else 0 : ℝ) : EReal) := by
  pointwise [val_main_v30, val_main_call0_v0, val_main_call0_v1, val_main_call0_v2, val_main_cst_2, val_main_v29, val_main_v28, val_main_v27, val_main_v26, val_main_v25, val_main_v24, val_main_v23, val_main_cst_1, val_main_v22, val_main_v21, val_main_v20, val_main_cst_0, val_main_v17, val_main_v16, val_main_v15, val_main_v14, val_main_v13, val_main_v12, val_main_v11, val_main_v10]
  have hz : (id (constant (F := Ideal) S_ FTy.f32 0#32) ix0 : EReal) = ((0 : ℝ) : EReal) := Ideal.ofBits_zero_f32
  rw [hz, sitofp_nat _ (by omega), sitofp_nat _ (by omega), hf]
  simp only [← EReal.coe_sub, ← EReal.coe_zero, EReal.coe_le_coe_iff, sub_nonneg, Nat.cast_le]
  by_cases hle : (j : ℕ) ≤ (i : ℕ)
  · rw [if_pos hle, if_pos hle, max_eq_left (EReal.coe_le_coe_iff.2 (sub_nonneg.2 (Nat.cast_le.2 hle))), ← EReal.coe_mul, Ideal.exp_coe]
  · rw [if_neg hle, if_neg hle]

theorem back_weight (lb : ℝ) (h : Fin 4) (hb : x1 (ix2 1 h) = (lb : EReal)) (i j : Fin 4096) :
    val_main_v42 (F := Ideal) x1 (ix3 h i j) = ((if (i : ℕ) < j then Real.exp (lb * ((j : ℕ) - (i : ℕ))) else 0 : ℝ) : EReal) := by
  pointwise [val_main_v42, val_main_call1_v0, val_main_call1_v1, val_main_call1_v2, val_main_cst_5, val_main_v41, val_main_v40, val_main_v39, val_main_v38, val_main_v37, val_main_v36, val_main_v35, val_main_cst_4, val_main_v34, val_main_v33, val_main_v32, val_main_v31, val_main_cst_3, val_main_v19, val_main_v18, val_main_v15, val_main_v14, val_main_v13, val_main_v12, val_main_v11, val_main_v10]
  have hz : (id (constant (F := Ideal) S_ FTy.f32 0#32) ix0 : EReal) = ((0 : ℝ) : EReal) := Ideal.ofBits_zero_f32
  rw [hz, sitofp_nat _ (by omega), sitofp_nat _ (by omega), hb]
  simp only [← EReal.coe_sub, ← EReal.coe_neg, ← EReal.coe_zero, EReal.coe_lt_coe_iff, sub_neg, Nat.cast_lt, neg_sub]
  by_cases hlt : (i : ℕ) < (j : ℕ)
  · rw [if_pos hlt, if_pos hlt, max_eq_left (EReal.coe_le_coe_iff.2 (sub_nonneg.2 (Nat.cast_le.2 hlt.le))), ← EReal.coe_mul, Ideal.exp_coe]
  · rw [if_neg hlt, if_neg hlt]

theorem score_at (s h : Fin 4) (i j : Fin 4096) :
    val_main_v43 (F := Ideal) x0 (ix4 s h i j) = ∑ d : Fin 128, val_main_v4 (F := Ideal) x0 (ix4 s i h d) * val_main_v6 (F := Ideal) x0 (ix4 s j h d) := by
  pointwise [val_main_v43]

theorem front_at (s : Fin 4) (i : Fin 4096) (h : Fin 4) (e : Fin 128) :
    val_main_v48 (F := Ideal) x0 x1 (ix4 s i h e) = ∑ j : Fin 4096, val_main_v8 (F := Ideal) x0 (ix4 s j h e) * (val_main_v43 (F := Ideal) x0 (ix4 s h i j) * val_main_v30 (F := Ideal) x1 (ix3 h i j)) := by
  pointwise [val_main_v48, val_main_v47, val_main_v46, val_main_v45, val_main_v44]

theorem back_at (s : Fin 4) (i : Fin 4096) (h : Fin 4) (e : Fin 128) :
    val_main_v68 (F := Ideal) x0 x1 (ix4 s i h e) = ∑ j : Fin 4096, val_main_v8 (F := Ideal) x0 (ix4 s j h e) * (val_main_v43 (F := Ideal) x0 (ix4 s h i j) * val_main_v42 (F := Ideal) x1 (ix3 h i j)) := by
  pointwise [val_main_v68, val_main_v67, val_main_v66, val_main_v65, val_main_v64]

theorem from_front (s : Fin 4) (i : Fin 4096) (h : Fin 4) (e : Fin 128) (lf : ℝ) (hf : x1 (ix2 0 h) = (lf : EReal)) :
    val_main_v62 (F := Ideal) x0 x1 x3 (ix4 s i h e) = ∑ d : Fin 128, x3 (ix4 s h d e) * (val_main_v4 (F := Ideal) x0 (ix4 s i h d) * ((Real.exp (lf * ((i : ℕ) + 1)) : ℝ) : EReal)) := by
  pointwise [val_main_v62, val_main_v61, val_main_v60, val_main_v59, val_main_v58, val_main_v57, val_main_v56, val_main_v55, val_main_v54, val_main_v53, val_main_v52, val_main_v51, val_main_v50, val_main_cst_6, val_main_v49, val_main_v17, val_main_v16, val_main_v10]
  rw [sitofp_nat _ (by omega), hf, ← EReal.coe_one, ← EReal.coe_add, ← EReal.coe_mul, Ideal.exp_coe]

theorem from_back (s : Fin 4) (i : Fin 4096) (h : Fin 4) (e : Fin 128) (lb : ℝ) (hb : x1 (ix2 1 h) = (lb : EReal)) :
    val_main_v82 (F := Ideal) x0 x1 x4 (ix4 s i h e) = ∑ d : Fin 128, x4 (ix4 s h d e) * (val_main_v4 (F := Ideal) x0 (ix4 s i h d) * ((Real.exp (lb * (4096 - (i : ℕ))) : ℝ) : EReal)) := by
  pointwise [val_main_v82, val_main_v81, val_main_v80, val_main_v79, val_main_v78, val_main_v77, val_main_v76, val_main_v75, val_main_v74, val_main_v73, val_main_v72, val_main_v71, val_main_v70, val_main_cst_7, val_main_v69, val_main_v19, val_main_v18, val_main_v10]
  rw [sitofp_nat _ (by omega), hb, show (1166016512#32) = 0x45800000#32 from rfl, ofBits_4096, ← EReal.coe_sub, ← EReal.coe_mul, Ideal.exp_coe]

/-- A row of the mixture, from finite queries, keys, values and decays. -/
theorem mixed_at (s h : Fin 4) {lf lb : ℝ} {Q K V : Retention.Rows} {sf sb : Start}
    (hf : x1 (ix2 0 h) = (lf : EReal)) (hb : x1 (ix2 1 h) = (lb : EReal))
    (hq : ∀ (i : Fin 4096) (d : Fin 128), x0 (ix2 ⟨s * 4096 + i, by omega⟩ ⟨h * 128 + d, by omega⟩) = (Q i d : EReal))
    (hk : ∀ (i : Fin 4096) (d : Fin 128), x0 (ix2 ⟨s * 4096 + i, by omega⟩ ⟨512 + (h * 128 + d), by omega⟩) = (K i d : EReal))
    (hv : ∀ (i : Fin 4096) (d : Fin 128), x0 (ix2 ⟨s * 4096 + i, by omega⟩ ⟨1024 + (h * 128 + d), by omega⟩) = (V i d : EReal))
    (h3 : ∀ d e, x3 (ix4 s h d e) = sf d e) (h4 : ∀ d e, x4 (ix4 s h d e) = sb d e)
    (i : Fin 4096) (e : Fin 128) :
    val_main_v84 (F := Ideal) x0 x1 x3 x4 (ix4 s i h e) = denseFrom lf lb scale Q K V sf sb i e := by
  show (val_main_v48 (F := Ideal) x0 x1 (ix4 s i h e) + val_main_v62 (F := Ideal) x0 x1 x3 (ix4 s i h e)
    + (val_main_v68 (F := Ideal) x0 x1 (ix4 s i h e) + val_main_v82 (F := Ideal) x0 x1 x4 (ix4 s i h e)) : EReal) = _
  rw [denseFrom_eq, front_at, back_at, from_front _ _ _ s i h e lf hf, from_back _ _ _ s i h e lb hb]
  simp only [score_at, query_at, key_at, value_at, front_weight x1 lf h hf, back_weight x1 lb h hb, hq, hk, hv, h3, h4, ofBits_scale,
    EReal.coe_mul, sum_coe]

theorem normed_at (s : Fin 4) (i : Fin 4096) (h : Fin 4) (e : Fin 128) (gn g : EReal) :
    val_main_v102 (F := Ideal) x0 x1 x3 x4 (ix4 s i h e) * gn * (g * Ideal.logistic g) = post (fun e => val_main_v84 (F := Ideal) x0 x1 x3 x4 (ix4 s i h e)) gn g e := by
  pointwise [val_main_v102, val_main_v101, val_main_v100, val_main_v99, val_main_v98, val_main_cst_12, val_main_v97, val_main_v96, val_main_v95, val_main_v94, val_main_cst_11, val_main_v93, val_main_v92, val_main_cst_10, val_main_v91, val_main_v90, val_main_v89, val_main_v88, val_main_v87, val_main_cst_9, val_main_v86, val_main_v85, val_main_cst_8]
  rfl

theorem result_at (r : Fin 16384) (k : Fin 512) :
    val_main_v109 (F := Ideal) x0 x1 x2 x3 x4 (ix2 r k)
      = post (fun e => val_main_v84 (F := Ideal) x0 x1 x3 x4 (ix4 ⟨r.val / 4096, by omega⟩ ⟨r.val % 4096, by omega⟩ ⟨k.val / 128, by omega⟩ e))
          (x2 (ix1 k)) (x0 (ix2 r ⟨1536 + k.val, by omega⟩)) ⟨k.val % 128, by omega⟩ := by
  pointwise [val_main_v109, val_main_v108, val_main_v107, val_main_v106, val_main_v105, val_main_v104, val_main_v103, val_main_v9, val_main_v0, val_main_call2_v0, val_main_call2_v1, val_main_call2_v2, val_main_call2_v3, val_main_call2_v4, val_main_call2_v5, val_main_call2_cst, val_main_call2_cst_0]
  rw [← normed_at]
  rfl

end Cert.ReferenceIdeal.Rows
-- ==== Proof.RetFinite.lean ====
module

public import proofs.«01_k».proof.Pre_finite_inputs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Pre_finite_inputs

/-! The precondition, read at an index: what it names is neither infinity. -/

theorem facts : Facts := ⟨by decide, by decide, by decide⟩

theorem lt_top_of (x : EReal) (h : max x (-x) < ⊤) : x ≠ ⊤ ∧ x ≠ ⊥ := by
  refine ⟨?_, ?_⟩ <;> rintro rfl <;> simp at h

theorem ofBits_inf : Ideal.ofBits .f32 0x7F800000#32 = ⊤ := by
  simp [Ideal.ofBits, Ideal.ieee]

theorem ofBool_lt (x : EReal) (h : BitVec.ofBool (decide (max x (-x) < Ideal.ofBits .f32 0x7F800000#32)) = 1#1) : x ≠ ⊤ ∧ x ≠ ⊥ := by
  refine lt_top_of x ?_
  rw [ofBits_inf] at h
  by_contra hn
  simp [hn] at h

attribute [local instance] facts

variable (A0 : FVec Ideal S16384x7168 .f32) (A1 : FVec Ideal S2x4 .f32) (A2 : FVec Ideal S512 .f32) (A3 A4 : FVec Ideal S4x4x128x128 .f32)

theorem rows_finite (h : (fn (F := Ideal) A0 A1 A2 A3 A4).1 = fun _ => 1#1) (r : Fin 16384) (k : Fin 7168) (hk : k.val < 1536) :
    A0 (ix2 r k) ≠ ⊤ ∧ A0 (ix2 r k) ≠ ⊥ := by
  have h := congrFun h (ix2 r ⟨k.val, hk⟩)
  revert h
  pointwise [fn]
  exact ofBool_lt _

theorem decays_finite (h : (fn (F := Ideal) A0 A1 A2 A3 A4).2 = fun _ => 1#1) (r : Fin 2) (k : Fin 4) :
    A1 (ix2 r k) ≠ ⊤ ∧ A1 (ix2 r k) ≠ ⊥ := by
  have h := congrFun h (ix2 r k)
  revert h
  pointwise [fn]
  exact ofBool_lt _

end Cert.Pre_finite_inputs
-- ==== Proof.RetValue.lean ====
module

public import proofs.«01_k».proof.Defs
public import proofs.«01_k».proof.Proof.RetFrame
public import proofs.«01_k».proof.Proof.RetReads
public import proofs.«01_k».proof.Proof.RetOut
public import proofs.«01_k».proof.Proof.RetRef
public import proofs.«01_k».proof.Proof.RetFinite
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Ret

variable (m : (ℓ : Loc nD τ sig) → Buf (Elt Ideal) ℓ)

/-- What the reference gives for the arguments. -/
def ref (x0 : FVec Ideal S16384x7168 .f32) (x1 : FVec Ideal S2x4 .f32) (x2 : FVec Ideal S512 .f32) (x3 x4 : FVec Ideal S4x4x128x128 .f32) :
    FVec Ideal S16384x512 .f32 := Cert.ReferenceIdeal.Read.val_main_v109 (F := Ideal) x0 x1 x2 x3 x4

/-- The reference's entry of batch `s`, row `i`, head `h`, feature `e`. -/
theorem ref_at (x0 : FVec Ideal S16384x7168 .f32) (x1 : FVec Ideal S2x4 .f32) (x2 : FVec Ideal S512 .f32) (x3 x4 : FVec Ideal S4x4x128x128 .f32)
    (s h : Fin 4) (i : Fin 4096) (e : Fin 128) :
    ref x0 x1 x2 x3 x4 (ix2 ⟨s * 4096 + i, by omega⟩ ⟨h * 128 + e, by omega⟩)
      = post (fun e => Cert.ReferenceIdeal.Read.val_main_v84 (F := Ideal) x0 x1 x3 x4 (ix4 s i h e)) (x2 (ix1 ⟨h * 128 + e, by omega⟩))
          (x0 (ix2 ⟨s * 4096 + i, by omega⟩ ⟨1536 + (h * 128 + e), by omega⟩)) e := by
  have e1 : ∀ p, (⟨(s.val * 4096 + i.val) / 4096, p⟩ : Fin 4) = s := fun _ => Fin.ext (by dsimp only; omega)
  have e2 : ∀ p, (⟨(s.val * 4096 + i.val) % 4096, p⟩ : Fin 4096) = i := fun _ => Fin.ext (by dsimp only; omega)
  have e3 : ∀ p, (⟨(h.val * 128 + e.val) / 128, p⟩ : Fin 4) = h := fun _ => Fin.ext (by dsimp only; omega)
  have e4 : ∀ p, (⟨(h.val * 128 + e.val) % 128, p⟩ : Fin 128) = e := fun _ => Fin.ext (by dsimp only; omega)
  refine (Cert.ReferenceIdeal.Rows.result_at _ _ _ _ _ _ _).trans ?_
  simp only [e1, e2, e3, e4]

/-- The rows a batch and head take of the columns from `base`, as reals. -/
def rows (x0 : FVec Ideal S16384x7168 .f32) (s h : Fin 4) (base : Fin 1025) : ℕ → Fin 128 → ℝ :=
  fun i d => if hi : i < 4096 then (x0 (ix2 ⟨s * 4096 + i, by omega⟩ ⟨base + (h * 128 + d), by omega⟩)).toReal else 0

theorem rows_at {x0 : FVec Ideal S16384x7168 .f32} (hx : ∀ (r : Fin 16384) (k : Fin 7168), k.val < 1536 → x0 (ix2 r k) ≠ ⊤ ∧ x0 (ix2 r k) ≠ ⊥)
    (s h : Fin 4) (base : Fin 1025) (i : Fin 4096) (d : Fin 128) :
    x0 (ix2 ⟨s * 4096 + i, by omega⟩ ⟨base + (h * 128 + d), by omega⟩) = ((rows x0 s h base i d : ℝ) : EReal) := by
  rw [rows, dif_pos i.isLt]
  have hx := hx ⟨s * 4096 + i, by omega⟩ ⟨base + (h * 128 + d), by omega⟩ (by dsimp only; omega)
  exact (EReal.coe_toReal hx.1 hx.2).symm

theorem rows_zero {x0 : FVec Ideal S16384x7168 .f32} (hx : ∀ (r : Fin 16384) (k : Fin 7168), k.val < 1536 → x0 (ix2 r k) ≠ ⊤ ∧ x0 (ix2 r k) ≠ ⊥)
    (s h : Fin 4) (i : Fin 4096) (d : Fin 128) :
    x0 (ix2 ⟨s * 4096 + i, by omega⟩ ⟨h * 128 + d, by omega⟩) = ((rows x0 s h 0 i d : ℝ) : EReal) := by
  refine (congrArg x0 ?_).trans (rows_at hx s h 0 i d)
  exact congrArg (ix2 _) (Fin.ext (by simp))

attribute [local instance] Cert.Pre_finite_inputs.facts

/-- What the precondition says of the memory's arguments on a device. -/
def Finite (c : Dev nD) : Prop :=
  let p := Cert.Pre_finite_inputs.fn (F := Ideal) (m ((c : Thread nD τ).loc main_arg0)) (m ((c : Thread nD τ).loc main_arg1))
    (m ((c : Thread nD τ).loc main_arg2)) (m ((c : Thread nD τ).loc main_arg3)) (m ((c : Thread nD τ).loc main_arg4))
  p.1 = (fun _ => 1#1) ∧ p.2 = (fun _ => 1#1)

set_option maxHeartbeats 2000000 in
/-- A point's block of the result is the reference's. -/
theorem point (c : Dev nD) (hp : Finite m c) (t : Fin cfg0.N) (r : Fin 4096) (e : Fin 128) :
    ((outsAt0 m c t).1 : FVec Ideal S4096x128 .f32) (ix2 r e)
      = ref (m ((c : Thread nD τ).loc main_arg0)) (m ((c : Thread nD τ).loc main_arg1)) (m ((c : Thread nD τ).loc main_arg2))
          (m ((c : Thread nD τ).loc main_arg3)) (m ((c : Thread nD τ).loc main_arg4))
          (ix2 ⟨bat t * 4096 + r, by omega⟩ ⟨head t * 128 + e, by omega⟩) := by
  obtain ⟨p0, p1⟩ := hp
  have hx := Cert.Pre_finite_inputs.rows_finite _ _ _ _ _ p0
  have hd := Cert.Pre_finite_inputs.decays_finite _ _ _ _ _ p1
  obtain ⟨lf, hf⟩ : ∃ lf : ℝ, m ((c : Thread nD τ).loc main_arg1) (ix2 0 (head t)) = ((lf : ℝ) : EReal) :=
    ⟨_, (EReal.coe_toReal (hd 0 (head t)).1 (hd 0 (head t)).2).symm⟩
  obtain ⟨lb, hb⟩ : ∃ lb : ℝ, m ((c : Thread nD τ).loc main_arg1) (ix2 1 (head t)) = ((lb : ℝ) : EReal) :=
    ⟨_, (EReal.coe_toReal (hd 1 (head t)).1 (hd 1 (head t)).2).symm⟩
  have q := rows_zero hx (bat t) (head t)
  have k := rows_at hx (bat t) (head t) 512
  have v := rows_at hx (bat t) (head t) 1024
  refine (block_at (rd0 m c t · · |>.trans (q _ _)) (rd1 m c t · · |>.trans (k _ _)) (rd2 m c t · · |>.trans (v _ _))
    (fun a b => (rd4 m c t a b).trans (mask_at m lf lb c (head t) hf hb a b))
    (fun a d => (rd5 m c t 0 a d).trans (dec0_at m lf c (head t) hf a d))
    (fun a d => (rd5 m c t 1 a d).trans (dec1_at m lf c (head t) hf a d))
    (fun a d => (rd5 m c t 2 a d).trans (dec2_at m lb c (head t) hb a d))
    (fun a d => (rd5 m c t 3 a d).trans (dec3_at m lb c (head t) hb a d))
    (fun d => (rd6 m c t 0 0 d).trans (cdec0_at m lf c (head t) hf 0 d))
    (fun d => (rd6 m c t 1 0 d).trans (cdec1_at m lb c (head t) hb 0 d))
    (rd8 m c t) (rd9 m c t) r e).trans ?_
  rw [ref_at, rd7, gain_at, rd3]
  refine congrArg (fun o => post o _ _ e) (funext fun e => ?_)
  exact (Cert.ReferenceIdeal.Rows.mixed_at _ _ _ _ (bat t) (head t) hf hb q k v (fun _ _ => rfl) (fun _ _ => rfl) r e).symm

/-- The value: the array of the result is the reference's. -/
theorem final (c : Dev nD) (hp : Finite m c) : (dats m 0 c).arrAt 10 (cfgs 0).N
    = ref (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 10 _ (by decide +kernel) fun t _ y => ?_
  blk_simp
  rw [after0_10 m c t]
  have ht := (idx t).2.2.2.2.2.2.2.2.2.2.2
  refine ((congrArg _ (eq_ix2 y)).trans (point m c hp t (y 0) (y 1))).trans ?_
  refine congrArg _ (funext fun a => ?_)
  match a with
  | ⟨0, _⟩ => exact Fin.ext (by simp [ix2, idx t, bat] <;> omega)
  | ⟨1, _⟩ => exact Fin.ext (by simp [ix2, idx t, head] <;> omega)

end Cert.KernelIdeal.Result
-- ==== Proof.Scatter.lean ====
/-
  A scatter that overwrites one window of an array: inside the window the result is the update, outside it the array.
-/
module

public import Idealize.ShloMosaic.Lib.Routing.OpsSet

@[expose] public section

namespace Cert.WindowSet

open Idealize.ShloMosaic

variable {α : Type} {s si u : Shape} {w : Nat}

/-- Update `j` lands at `ι` exactly when `ι` is the window's start plus `j`'s place in the window, axis by axis. -/
theorem lands (d : ScatterDims s si u) (idx : IVec si w) (o : Fin s.rank → ℕ) (p : u.Idx → Fin s.rank → ℕ)
    (hs : ∀ j a, d.start j idx a = (o a : Int)) (hw : ∀ j a, d.window j a = p j a) (j : u.Idx) (ι : s.Idx) :
    d.resultIdx? j idx = some ι ↔ ∀ a, (ι a).val = o a + p j a := by
  unfold ScatterDims.resultIdx?
  constructor
  · intro h a
    split at h
    · next hb =>
      have e := congrArg (fun t : s.Idx => (t a).val) (Option.some.inj h)
      dsimp only at e
      rw [hs, hw] at e
      omega
    · exact absurd h nofun
  · intro h
    have hb : ∀ a, 0 ≤ d.start j idx a + (d.window j a : Int) ∧ d.start j idx a + (d.window j a : Int) < s.size a := by
      intro a
      have h1 := h a
      have h2 := (ι a).isLt
      rw [hs, hw]
      omega
    rw [dif_pos hb]
    refine congrArg some (funext fun a => Fin.ext ?_)
    have h1 := h a
    dsimp only
    rw [hs, hw]
    omega

/-- Inside the window: the update. -/
theorem inside (d : ScatterDims s si u) (x : s.Idx → α) (idx : IVec si w) (upd : u.Idx → α) (o : Fin s.rank → ℕ)
    (p : u.Idx → Fin s.rank → ℕ) (hs : ∀ j a, d.start j idx a = (o a : Int)) (hw : ∀ j a, d.window j a = p j a)
    (hp : ∀ j j', (∀ a, p j a = p j' a) → j = j') (ι : s.Idx) (j : u.Idx) (hj : ∀ a, (ι a).val = o a + p j a) :
    Host.scatter d (fun _ b => b) x idx upd ι = upd j := by
  refine Routing.scatter_set_hit d x idx upd ι (upd j) (fun k hk => ?_) j ((lands d idx o p hs hw j ι).2 hj)
  have hk' := (lands d idx o p hs hw k ι).1 hk
  rw [hp k j fun a => by have h1 := hk' a; have h2 := hj a; omega]

/-- Outside the window: the array. -/
theorem outside (d : ScatterDims s si u) (x : s.Idx → α) (idx : IVec si w) (upd : u.Idx → α) (o : Fin s.rank → ℕ)
    (p : u.Idx → Fin s.rank → ℕ) (hs : ∀ j a, d.start j idx a = (o a : Int)) (hw : ∀ j a, d.window j a = p j a)
    (ι : s.Idx) (hm : ∀ j, ∃ a, (ι a).val ≠ o a + p j a) :
    Host.scatter d (fun _ b => b) x idx upd ι = x ι := by
  refine Routing.scatter_set_miss d x idx upd ι fun k hk => ?_
  obtain ⟨a, ha⟩ := hm k
  exact ha ((lands d idx o p hs hw k ι).1 hk a)

end Cert.WindowSet
-- ==== Proof.ProjValue.lean ====
/-
  The input projection: the kernel's output array is the reference's term of the same arguments.
-/
module

public import proofs.«01_k».proof.Proof.Gen.ProjIdeal.Value
public import proofs.«01_k».proof.Proof.Gen.ProjRefIdeal.Read
public import proofs.«01_k».proof.Proof.Scatter
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Result

open Cert.ProjIdeal Cert.ProjIdeal.Gen

variable (m : (ℓ : Loc nD τ sig) → Buf (Elt Ideal) ℓ)

/-- The reference's result over the residual stream `x`, the modulation rows `a`, the gain `g` and the weights `w`. -/
def ref (x : FVec Ideal S16384x1024 .f32) (a : FVec Ideal S4x6144 .f32) (g : FVec Ideal S1024 .f32)
    (w : FVec Ideal S1024x7168 .f32) : FVec Ideal S16384x7168 .f32 :=
  Cert.ProjRefIdeal.Read.val_main_v28 (F := Ideal) x a g w

/-- Point `t` reads row block `t / 7` of the stream, the modulation rows of batch entry `t / 28`, the whole gain and column
    block `t % 7` of the weights, and writes block `(t / 7, t % 7)`. -/
theorem idx : ∀ t : Fin cfg0.N, win0_0.index t = ![t.val / 7, 0] ∧ win0_1.index t = ![t.val / 28, 0, 0]
    ∧ win0_2.index t = ![0, 0] ∧ win0_3.index t = ![0, t.val % 7] ∧ win0_4.index t = ![t.val / 7, t.val % 7] ∧ t.val < 112 :=
  (by decide +kernel : ∀ t : Fin grid0.N, win0_0.index t = ![t.val / 7, 0] ∧ win0_1.index t = ![t.val / 28, 0, 0]
    ∧ win0_2.index t = ![0, 0] ∧ win0_3.index t = ![0, t.val % 7] ∧ win0_4.index t = ![t.val / 7, t.val % 7] ∧ t.val < 112)

/-- Rows 0, 1 and 2 of the padded modulation rows are the shift, the scale and the gate of the argument. -/
theorem mod_rows (c : Dev nD) (b : Fin 4) (r : Fin 8) (l : Fin 1024) (hr : r.val < 3) :
    (V m c main_v4 : FVec Ideal S4x8x1024 .f32) (ix3 b r l)
      = (m ((c : Thread nD τ).loc main_arg1) : FVec Ideal S4x6144 .f32) (ix2 b ⟨r.val * 1024 + l.val, by omega⟩) := by
  entry_read
  refine (Cert.WindowSet.inside scatter_S4x8x1024_S1_S4x3x1024_012_n_1_0 _ _ _ (fun _ => 0) (fun j a => (j a).val)
    (fun j a => by match a with | ⟨0, _⟩ => rfl | ⟨1, _⟩ => rfl | ⟨2, _⟩ => rfl)
    (fun j a => by match a with | ⟨0, _⟩ => rfl | ⟨1, _⟩ => rfl | ⟨2, _⟩ => rfl)
    (fun j j' h => funext fun a => Fin.ext (h a)) (ix3 b r l) (ix3 b (⟨r.val, hr⟩ : Fin 3) l)
    (fun a => by match a with
      | ⟨0, _⟩ => exact (Nat.zero_add _).symm
      | ⟨1, _⟩ => exact (Nat.zero_add _).symm
      | ⟨2, _⟩ => exact (Nat.zero_add _).symm)).trans ?_
  pointwise

/-- The normalised and modulated rows: what the body leaves in its scratch at the first column block of a row block. -/
def hrows (c : Dev nD) (t : Fin cfg0.N) : FVec Ideal S1024x1024 .bf16 :=
  k0_pay1 (F := Ideal) (iblk m c 0 t) (iblk m c 2 t)
    (fun y => (iblk m c 1 t : FVec Ideal S1x8x1024 .f32) (ix3 (0 : Fin 1) (1 : Fin 8) (y 2)))
    (fun y => (iblk m c 1 t : FVec Ideal S1x8x1024 .f32) (ix3 (0 : Fin 1) (0 : Fin 8) (y 2)))

/-- At the first column block the scratch is filled. -/
theorem scratch_A (c : Dev nD) (t : Fin cfg0.N) (h : t.val % 7 = 0) : (outsAt0 m c t.val t.isLt).2 = hrows m c t := by
  rw [outsAt0_A m c t h]
  frame_out
  unfold hrows
  refine congr (congrArg (k0_pay1 _ _) (funext fun y => ?_)) (funext fun y => ?_)
  all_goals
    refine congrArg (iblk m c 1 t) (funext fun a => ?_)
    have h0 := (y 0).isLt
    have h1 := (y 1).isLt
    match a with
    | ⟨0, _⟩ => exact Fin.ext (by simp [LoadRect.idx, Rect.unit, ix3] at h0 ⊢ <;> omega)
    | ⟨1, _⟩ => exact Fin.ext (by simp [LoadRect.idx, Rect.unit, ix3] at h1 ⊢ <;> omega)
    | ⟨2, _⟩ => exact Fin.ext (by simp [LoadRect.idx, Rect.unit, ix3])

/-- A point's block of the stream, at an index. -/
theorem read0 (c : Dev nD) (t : Fin cfg0.N) (a k : Fin 1024) : (iblk m c 0 t : FVec Ideal S1024x1024 .f32) (ix2 a k)
    = (V m c main_arg0 : FVec Ideal S16384x1024 .f32) (ix2 ⟨t.val / 7 * 1024 + a.val, by have := (idx t).2.2.2.2.2; omega⟩ k) := by
  blk_point [iblk, idx t]

/-- A point's modulation rows, at an index. -/
theorem read1 (c : Dev nD) (t : Fin cfg0.N) (a : Fin 1) (r : Fin 8) (k : Fin 1024) :
    (iblk m c 1 t : FVec Ideal S1x8x1024 .f32) (ix3 a r k)
    = (V m c main_v4 : FVec Ideal S4x8x1024 .f32) (ix3 ⟨t.val / 28, by have := (idx t).2.2.2.2.2; omega⟩ r k) := by
  blk_point [iblk, idx t]

/-- A point's gain, at an index. -/
theorem read2 (c : Dev nD) (t : Fin cfg0.N) (a : Fin 1) (k : Fin 1024) : (iblk m c 2 t : FVec Ideal S1x1024 .f32) (ix2 a k)
    = (V m c main_v8 : FVec Ideal S1x1024 .f32) (ix2 a k) := by
  blk_point [iblk, idx t]

/-- Within a row block the rows do not change. -/
theorem hrows_congr (c : Dev nD) (t t' : Fin cfg0.N) (h : t.val / 7 = t'.val / 7) : hrows m c t = hrows m c t' := by
  have h2 : t.val / 28 = t'.val / 28 := by omega
  have e0 : (iblk m c 0 t : FVec Ideal S1024x1024 .f32) = iblk m c 0 t' := funext fun (y : S1024x1024.Idx) => by
    have e := (read0 m c t (y 0) (y 1)).trans (Eq.trans (by simp only [h]) (read0 m c t' (y 0) (y 1)).symm)
    rwa [← eq_ix2 y] at e
  have e1 : (iblk m c 1 t : FVec Ideal S1x8x1024 .f32) = iblk m c 1 t' := funext fun (y : S1x8x1024.Idx) => by
    have e := (read1 m c t (y 0) (y 1) (y 2)).trans (Eq.trans (by simp only [h2]) (read1 m c t' (y 0) (y 1) (y 2)).symm)
    rwa [← eq_ix3 y] at e
  have e2 : (iblk m c 2 t : FVec Ideal S1x1024 .f32) = iblk m c 2 t' := funext fun (y : S1x1024.Idx) => by
    have e := (read2 m c t (y 0) (y 1)).trans (read2 m c t' (y 0) (y 1)).symm
    rwa [← eq_ix2 y] at e
  unfold hrows
  rw [e0, e1, e2]

/-- In particular between a point that is not its row block's first and the point before it. -/
theorem hrows_prev (c : Dev nD) (t : Fin cfg0.N) (h : ¬ t.val % 7 = 0) :
    hrows m c t = hrows m c ⟨t.val - 1, Nat.lt_of_le_of_lt (Nat.sub_le _ _) t.isLt⟩ :=
  hrows_congr m c _ _ (by show t.val / 7 = (t.val - 1) / 7; omega)

/-- At every point the scratch holds its row block's rows. -/
theorem scratch (c : Dev nD) : ∀ (n : ℕ) (hn : n < cfg0.N), (outsAt0 m c n hn).2 = hrows m c ⟨n, hn⟩ := by
  intro n
  induction n with
  | zero => exact fun hn => scratch_A m c ⟨0, hn⟩ rfl
  | succ n ih =>
    intro hn
    by_cases h : (n + 1) % 7 = 0
    · exact scratch_A m c ⟨n + 1, hn⟩ h
    · rw [hrows_prev m c ⟨n + 1, hn⟩ h]
      refine Eq.trans ?_ (ih (Nat.lt_of_succ_lt hn))
      have e := outsAt0_B m c ⟨n + 1, hn⟩ h
      exact (congrArg Prod.snd e).trans rfl

/-- At every point the block written is the product of those rows with the point's columns. -/
theorem block (c : Dev nD) (t : Fin cfg0.N) :
    (outsAt0 m c t.val t.isLt).1 = k0_pay2 (F := Ideal) (hrows m c t) (iblk m c 3 t) := by
  by_cases h : t.val % 7 = 0
  · have e := scratch_A m c t h
    rw [outsAt0_A m c t h] at e ⊢
    frame_out
    frame_out at e
    rw [e]
  · rw [outsAt0_B m c t h]
    frame_out
    rw [read_unread_whole, scratch m c, hrows_prev m c t h]

/-- One product against the reference's result. -/
theorem point (c : Dev nD) (t : Fin cfg0.N) (y) : k0_pay2 (F := Ideal) (hrows m c t) (iblk m c 3 t) y
    = ref (m ((c : Thread nD τ).loc main_arg0)) (m ((c : Thread nD τ).loc main_arg1)) (m ((c : Thread nD τ).loc main_arg2))
        (m ((c : Thread nD τ).loc main_arg3)) (((cfg0.win 4).blk t).view.emb y) := by
  pointwise [hrows, k0_pay1, k0_pay2, ref, Cert.ProjRefIdeal.Read.val_main_v28, Cert.ProjRefIdeal.Read.val_main_v27, Cert.ProjRefIdeal.Read.val_main_v26,
    Cert.ProjRefIdeal.Read.val_main_v25, Cert.ProjRefIdeal.Read.val_main_v24, Cert.ProjRefIdeal.Read.val_main_v23,
    Cert.ProjRefIdeal.Read.val_main_v22, Cert.ProjRefIdeal.Read.val_main_v21, Cert.ProjRefIdeal.Read.val_main_cst_2,
    Cert.ProjRefIdeal.Read.val_main_v20, Cert.ProjRefIdeal.Read.val_main_v19, Cert.ProjRefIdeal.Read.val_main_v18,
    Cert.ProjRefIdeal.Read.val_main_v17, Cert.ProjRefIdeal.Read.val_main_v16, Cert.ProjRefIdeal.Read.val_main_v15,
    Cert.ProjRefIdeal.Read.val_main_v14, Cert.ProjRefIdeal.Read.val_main_v13, Cert.ProjRefIdeal.Read.val_main_cst_1,
    Cert.ProjRefIdeal.Read.val_main_v12, Cert.ProjRefIdeal.Read.val_main_v11, Cert.ProjRefIdeal.Read.val_main_cst_0,
    Cert.ProjRefIdeal.Read.val_main_v10, Cert.ProjRefIdeal.Read.val_main_v9, Cert.ProjRefIdeal.Read.val_main_cst,
    Cert.ProjRefIdeal.Read.val_main_v8, Cert.ProjRefIdeal.Read.val_main_v7, Cert.ProjRefIdeal.Read.val_main_v6,
    Cert.ProjRefIdeal.Read.val_main_v5, Cert.ProjRefIdeal.Read.val_main_v4, Cert.ProjRefIdeal.Read.val_main_v3,
    Cert.ProjRefIdeal.Read.val_main_v2, Cert.ProjRefIdeal.Read.val_main_v1, Cert.ProjRefIdeal.Read.val_main_v0]
  have hm : ∀ (r : Fin 8) (l : Fin 1024) (hr : r.val < 3), (iblk m c 1 t : FVec Ideal S1x8x1024 .f32) (ix3 (0 : Fin 1) r l)
      = (m ((c : Thread nD τ).loc main_arg1) : FVec Ideal S4x6144 .f32)
        (ix2 (⟨t.val / 28, by have := (idx t).2.2.2.2.2; omega⟩ : Fin 4) ⟨r.val * 1024 + l.val, by omega⟩) := by
    intro r l hr
    rw [← mod_rows m c _ r l hr]
    blk_point [iblk, idx t]
  simp only [hm _ _ (by decide : (0 : Fin 8).val < 3), hm _ _ (by decide : (1 : Fin 8).val < 3)]
  blk_point [iblk, V, idx t]

/-- The value: the kernel's output array is the reference's term of its own arguments. -/
theorem final (c : Dev nD) : (dats m 0 c).arrAt 4 (cfgs 0).N
    = ref (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4, block m c t]
  exact point m c t y

end Cert.ProjIdeal.Result

end
-- ==== Proof.MergeHost.lean ====
module

public import proofs.«01_k».proof.Proof.Gen.MergeIdeal.Value
public import proofs.«01_k».proof.Proof.Gen.MergeRefIdeal.Read
public import proofs.«01_k».proof.Proof.Scatter
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Result

open Cert.MergeIdeal Cert.MergeIdeal.Gen

variable (m : (ℓ : Loc nD τ sig) → Buf (Elt Ideal) ℓ)

/-- Point `t` of the 64 reads row block `t` of the row-blocked arrays (of the projection: columns 2048..2559 and the three
    gate columns), the modulation rows of batch entry `t / 16` and the parameters whole, and writes row block `t`. -/
theorem idx : ∀ t : Fin cfg0.N, (win0_0.index t = ![t.val, 0] ∧ win0_1.index t = ![t.val, 0] ∧ win0_2.index t = ![t.val, 4]
    ∧ win0_3.index t = ![t.val, 0] ∧ win0_4.index t = ![t.val, 4] ∧ win0_5.index t = ![t.val, 5] ∧ win0_6.index t = ![t.val, 6]
    ∧ win0_7.index t = ![t.val, 0] ∧ win0_8.index t = ![t.val / 16, 0, 0] ∧ win0_9.index t = ![t.val / 16, 0, 0]
    ∧ win0_10.index t = ![0, 0] ∧ win0_11.index t = ![0, 0] ∧ win0_12.index t = ![0, 0] ∧ win0_13.index t = ![0, 0, 0])
    ∧ (win0_14.index t = ![0, 0] ∧ win0_15.index t = ![0, 0] ∧ win0_16.index t = ![0, 0] ∧ win0_17.index t = ![0, 0]
    ∧ win0_18.index t = ![t.val, 0] ∧ win0_19.index t = ![t.val, 0] ∧ win0_20.index t = ![t.val, 0]) ∧ t.val < 64 :=
  (by decide +kernel : ∀ t : Fin grid0.N, (win0_0.index t = ![t.val, 0] ∧ win0_1.index t = ![t.val, 0] ∧ win0_2.index t = ![t.val, 4]
    ∧ win0_3.index t = ![t.val, 0] ∧ win0_4.index t = ![t.val, 4] ∧ win0_5.index t = ![t.val, 5] ∧ win0_6.index t = ![t.val, 6]
    ∧ win0_7.index t = ![t.val, 0] ∧ win0_8.index t = ![t.val / 16, 0, 0] ∧ win0_9.index t = ![t.val / 16, 0, 0]
    ∧ win0_10.index t = ![0, 0] ∧ win0_11.index t = ![0, 0] ∧ win0_12.index t = ![0, 0] ∧ win0_13.index t = ![0, 0, 0])
    ∧ (win0_14.index t = ![0, 0] ∧ win0_15.index t = ![0, 0] ∧ win0_16.index t = ![0, 0] ∧ win0_17.index t = ![0, 0]
    ∧ win0_18.index t = ![t.val, 0] ∧ win0_19.index t = ![t.val, 0] ∧ win0_20.index t = ![t.val, 0]) ∧ t.val < 64)

/-- Rows 0, 1 and 2 of the first padded modulation rows are parts 0, 1 and 2 of the argument. -/
theorem mod1_rows (c : Dev nD) (b : Fin 4) (r : Fin 8) (l : Fin 1024) (hr : r.val < 3) :
    (V m c main_v4 : FVec Ideal S4x8x1024 .f32) (ix3 b r l)
      = (m ((c : Thread nD τ).loc main_arg5) : FVec Ideal S4x6144 .f32) (ix2 b ⟨r.val * 1024 + l.val, by omega⟩) := by
  entry_read
  refine (Cert.WindowSet.inside scatter_S4x8x1024_S1_S4x3x1024_012_n_1_0 _ _ _ (fun _ => 0) (fun j a => (j a).val)
    (fun j a => by match a with | ⟨0, _⟩ => rfl | ⟨1, _⟩ => rfl | ⟨2, _⟩ => rfl)
    (fun j a => by match a with | ⟨0, _⟩ => rfl | ⟨1, _⟩ => rfl | ⟨2, _⟩ => rfl)
    (fun j j' h => funext fun a => Fin.ext (h a)) (ix3 b r l) (ix3 b (⟨r.val, hr⟩ : Fin 3) l)
    (fun a => by match a with
      | ⟨0, _⟩ => exact (Nat.zero_add _).symm
      | ⟨1, _⟩ => exact (Nat.zero_add _).symm
      | ⟨2, _⟩ => exact (Nat.zero_add _).symm)).trans ?_
  pointwise

/-- Rows 0, 1 and 2 of the second padded modulation rows are parts 3, 4 and 5 of the argument. -/
theorem mod2_rows (c : Dev nD) (b : Fin 4) (r : Fin 8) (l : Fin 1024) (hr : r.val < 3) :
    (V m c main_v7 : FVec Ideal S4x8x1024 .f32) (ix3 b r l)
      = (m ((c : Thread nD τ).loc main_arg5) : FVec Ideal S4x6144 .f32) (ix2 b ⟨(3 + r.val) * 1024 + l.val, by omega⟩) := by
  entry_read
  refine (Cert.WindowSet.inside scatter_S4x8x1024_S1_S4x3x1024_012_n_1_0 _ _ _ (fun _ => 0) (fun j a => (j a).val)
    (fun j a => by match a with | ⟨0, _⟩ => rfl | ⟨1, _⟩ => rfl | ⟨2, _⟩ => rfl)
    (fun j a => by match a with | ⟨0, _⟩ => rfl | ⟨1, _⟩ => rfl | ⟨2, _⟩ => rfl)
    (fun j j' h => funext fun a => Fin.ext (h a)) (ix3 b r l) (ix3 b (⟨r.val, hr⟩ : Fin 3) l)
    (fun a => by match a with
      | ⟨0, _⟩ => exact (Nat.zero_add _).symm
      | ⟨1, _⟩ => exact (Nat.zero_add _).symm
      | ⟨2, _⟩ => exact (Nat.zero_add _).symm)).trans ?_
  pointwise

/-- The router's weights: the expert columns. -/
theorem wr_experts (c : Dev nD) (k : Fin 1024) (j : Fin 32) :
    (V m c main_v12 : FVec Ideal S1024x128 .f32) (ix2 k ⟨4 + j.val, by omega⟩)
      = (m ((c : Thread nD τ).loc main_arg14) : FVec Ideal S1024x32 .f32) (ix2 k j) := by
  entry_read
  exact Cert.WindowSet.inside scatter_S1024x128_S1_S1024x32_01_n_1_0 _ _ _ (![0, 4]) (fun j a => (j a).val)
    (fun j a => by match a with | ⟨0, _⟩ => rfl | ⟨1, _⟩ => rfl)
    (fun j a => by match a with | ⟨0, _⟩ => rfl | ⟨1, _⟩ => rfl)
    (fun j j' h => funext fun a => Fin.ext (h a)) _ (ix2 k j)
    (fun a => by match a with
      | ⟨0, _⟩ => exact (Nat.zero_add _).symm
      | ⟨1, _⟩ => rfl)

/-- The router's weights: the group columns. -/
theorem wr_groups (c : Dev nD) (k : Fin 1024) (j : Fin 4) :
    (V m c main_v12 : FVec Ideal S1024x128 .f32) (ix2 k ⟨j.val, by omega⟩)
      = (m ((c : Thread nD τ).loc main_arg12) : FVec Ideal S1024x4 .f32) (ix2 k j) := by
  entry_read
  refine (Cert.WindowSet.outside scatter_S1024x128_S1_S1024x32_01_n_1_0 _ _ _ (![0, 4]) (fun j a => (j a).val)
    (fun j a => by match a with | ⟨0, _⟩ => rfl | ⟨1, _⟩ => rfl)
    (fun j a => by match a with | ⟨0, _⟩ => rfl | ⟨1, _⟩ => rfl) _
    (fun q => ⟨1, by have := j.isLt; show j.val ≠ 4 + _; omega⟩)).trans ?_
  exact Cert.WindowSet.inside scatter_S1024x128_S1_S1024x4_01_n_1_0 _ _ _ (fun _ => 0) (fun j a => (j a).val)
    (fun j a => by match a with | ⟨0, _⟩ => rfl | ⟨1, _⟩ => rfl)
    (fun j a => by match a with | ⟨0, _⟩ => rfl | ⟨1, _⟩ => rfl)
    (fun j j' h => funext fun a => Fin.ext (h a)) _ (ix2 k j)
    (fun a => by match a with
      | ⟨0, _⟩ => exact (Nat.zero_add _).symm
      | ⟨1, _⟩ => exact (Nat.zero_add _).symm)

/-- The router's weights: the columns of padding. -/
theorem wr_rest (c : Dev nD) (k : Fin 1024) (j : Fin 128) (hj : 36 ≤ j.val) :
    (V m c main_v12 : FVec Ideal S1024x128 .f32) (ix2 k j) = (0 : EReal) := by
  entry_read
  refine (Cert.WindowSet.outside scatter_S1024x128_S1_S1024x32_01_n_1_0 _ _ _ (![0, 4]) (fun j a => (j a).val)
    (fun j a => by match a with | ⟨0, _⟩ => rfl | ⟨1, _⟩ => rfl)
    (fun j a => by match a with | ⟨0, _⟩ => rfl | ⟨1, _⟩ => rfl) _
    (fun q => ⟨1, by have h := (q 1).isLt; show j.val ≠ 4 + (q 1).val; simp at h; omega⟩)).trans ?_
  refine (Cert.WindowSet.outside scatter_S1024x128_S1_S1024x4_01_n_1_0 _ _ _ (fun _ => 0) (fun j a => (j a).val)
    (fun j a => by match a with | ⟨0, _⟩ => rfl | ⟨1, _⟩ => rfl)
    (fun j a => by match a with | ⟨0, _⟩ => rfl | ⟨1, _⟩ => rfl) _
    (fun q => ⟨1, by have h := (q 1).isLt; show j.val ≠ 0 + (q 1).val; simp at h; omega⟩)).trans ?_
  pointwise

/-- The router's bias: the expert columns. -/
theorem br_experts (c : Dev nD) (a0 : Fin 1) (j : Fin 32) :
    (V m c main_v21 : FVec Ideal S1x128 .f32) (ix2 a0 ⟨4 + j.val, by omega⟩)
      = (m ((c : Thread nD τ).loc main_arg15) : FVec Ideal S32 .f32) (ix1 j) := by
  entry_read
  exact Cert.WindowSet.inside scatter_S1x128_S2_S32_0_0_01_0 _ _ _ (![0, 4]) (fun j a => ![0, (j 0).val] a)
    (fun j a => by match a with | ⟨0, _⟩ => rfl | ⟨1, _⟩ => rfl)
    (fun j a => by match a with | ⟨0, _⟩ => rfl | ⟨1, _⟩ => rfl)
    (fun j j' h => funext fun a => by match a with | ⟨0, _⟩ => exact Fin.ext (h 1)) _ (ix1 j)
    (fun a => by match a with
      | ⟨0, _⟩ => exact Nat.lt_one_iff.mp a0.isLt
      | ⟨1, _⟩ => rfl)

/-- The router's bias: the group columns. -/
theorem br_groups (c : Dev nD) (a0 : Fin 1) (j : Fin 4) :
    (V m c main_v21 : FVec Ideal S1x128 .f32) (ix2 a0 ⟨j.val, by omega⟩)
      = (m ((c : Thread nD τ).loc main_arg13) : FVec Ideal S4 .f32) (ix1 j) := by
  entry_read
  refine (Cert.WindowSet.outside scatter_S1x128_S2_S32_0_0_01_0 _ _ _ (![0, 4]) (fun j a => ![0, (j 0).val] a)
    (fun j a => by match a with | ⟨0, _⟩ => rfl | ⟨1, _⟩ => rfl)
    (fun j a => by match a with | ⟨0, _⟩ => rfl | ⟨1, _⟩ => rfl) _
    (fun q => ⟨1, by have := j.isLt; show j.val ≠ 4 + _; omega⟩)).trans ?_
  exact Cert.WindowSet.inside scatter_S1x128_S2_S4_0_0_01_0 _ _ _ (fun _ => 0) (fun j a => ![0, (j 0).val] a)
    (fun j a => by match a with | ⟨0, _⟩ => rfl | ⟨1, _⟩ => rfl)
    (fun j a => by match a with | ⟨0, _⟩ => rfl | ⟨1, _⟩ => rfl)
    (fun j j' h => funext fun a => by match a with | ⟨0, _⟩ => exact Fin.ext (h 1)) _ (ix1 j)
    (fun a => by match a with
      | ⟨0, _⟩ => exact Nat.lt_one_iff.mp a0.isLt
      | ⟨1, _⟩ => exact (Nat.zero_add _).symm)

/-- The router's bias: the columns of padding. -/
theorem br_rest (c : Dev nD) (a0 : Fin 1) (j : Fin 128) (hj : 36 ≤ j.val) :
    (V m c main_v21 : FVec Ideal S1x128 .f32) (ix2 a0 j) = (0 : EReal) := by
  entry_read
  refine (Cert.WindowSet.outside scatter_S1x128_S2_S32_0_0_01_0 _ _ _ (![0, 4]) (fun j a => ![0, (j 0).val] a)
    (fun j a => by match a with | ⟨0, _⟩ => rfl | ⟨1, _⟩ => rfl)
    (fun j a => by match a with | ⟨0, _⟩ => rfl | ⟨1, _⟩ => rfl) _
    (fun q => ⟨1, by have h := (q 0).isLt; show j.val ≠ 4 + (q 0).val; simp at h; omega⟩)).trans ?_
  refine (Cert.WindowSet.outside scatter_S1x128_S2_S4_0_0_01_0 _ _ _ (fun _ => 0) (fun j a => ![0, (j 0).val] a)
    (fun j a => by match a with | ⟨0, _⟩ => rfl | ⟨1, _⟩ => rfl)
    (fun j a => by match a with | ⟨0, _⟩ => rfl | ⟨1, _⟩ => rfl) _
    (fun q => ⟨1, by have h := (q 0).isLt; show j.val ≠ 0 + (q 0).val; simp at h; omega⟩)).trans ?_
  pointwise

end Cert.MergeIdeal.Result

end
-- ==== Proof.MergeReads.lean ====
module

public import proofs.«01_k».proof.Proof.MergeHost
public import proofs.«01_k».proof.Proof.Gen.MergeIdeal.Value
public import proofs.«01_k».proof.Proof.Gen.MergeRefIdeal.Read
public import proofs.«01_k».proof.Proof.Scatter
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Result

open Cert.MergeIdeal Cert.MergeIdeal.Gen

variable (m : (ℓ : Loc nD τ sig) → Buf (Elt Ideal) ℓ)

/-! The blocks of a point, read off the arguments. -/

theorem rd0 (c : Dev nD) (t : Fin cfg0.N) (a : Fin 256) (l : Fin 512) (n : Fin 16384) (h : n.val = t.val * 256 + a.val) :
    (iblk m c 0 t : FVec Ideal S256x512 .f32) (ix2 a l) = (m ((c : Thread nD τ).loc main_arg0) : FVec Ideal S16384x512 .f32) (ix2 n l) := by
  have ht := (idx t).2.2
  rw [show n = (⟨t.val * 256 + a.val, by omega⟩ : Fin 16384) from Fin.ext h]
  blk_point [iblk, V, idx t]

theorem rd1 (c : Dev nD) (t : Fin cfg0.N) (a : Fin 256) (l : Fin 512) (n : Fin 16384) (h : n.val = t.val * 256 + a.val) :
    (iblk m c 1 t : FVec Ideal S256x512 .f32) (ix2 a l) = (m ((c : Thread nD τ).loc main_arg1) : FVec Ideal S16384x512 .f32) (ix2 n l) := by
  have ht := (idx t).2.2
  rw [show n = (⟨t.val * 256 + a.val, by omega⟩ : Fin 16384) from Fin.ext h]
  blk_point [iblk, V, idx t]

theorem rd3 (c : Dev nD) (t : Fin cfg0.N) (a : Fin 256) (l : Fin 512) (n : Fin 16384) (h : n.val = t.val * 256 + a.val) :
    (iblk m c 3 t : FVec Ideal S256x512 .f32) (ix2 a l) = (m ((c : Thread nD τ).loc main_arg3) : FVec Ideal S16384x512 .f32) (ix2 n l) := by
  have ht := (idx t).2.2
  rw [show n = (⟨t.val * 256 + a.val, by omega⟩ : Fin 16384) from Fin.ext h]
  blk_point [iblk, V, idx t]

theorem rd7 (c : Dev nD) (t : Fin cfg0.N) (a : Fin 256) (l : Fin 1024) (n : Fin 16384) (h : n.val = t.val * 256 + a.val) :
    (iblk m c 7 t : FVec Ideal S256x1024 .f32) (ix2 a l) = (m ((c : Thread nD τ).loc main_arg4) : FVec Ideal S16384x1024 .f32) (ix2 n l) := by
  have ht := (idx t).2.2
  rw [show n = (⟨t.val * 256 + a.val, by omega⟩ : Fin 16384) from Fin.ext h]
  blk_point [iblk, V, idx t]

theorem rd2 (c : Dev nD) (t : Fin cfg0.N) (a : Fin 256) (l : Fin 512) (n : Fin 16384) (h : n.val = t.val * 256 + a.val) :
    (iblk m c 2 t : FVec Ideal S256x512 .f32) (ix2 a l) = (m ((c : Thread nD τ).loc main_arg2) : FVec Ideal S16384x7168 .f32) (ix2 n (⟨2048 + l.val, by omega⟩ : Fin 7168)) := by
  have ht := (idx t).2.2
  rw [show n = (⟨t.val * 256 + a.val, by omega⟩ : Fin 16384) from Fin.ext h]
  blk_point [iblk, V, idx t]

theorem rd4 (c : Dev nD) (t : Fin cfg0.N) (a : Fin 256) (l : Fin 1024) (n : Fin 16384) (h : n.val = t.val * 256 + a.val) :
    (iblk m c 4 t : FVec Ideal S256x1024 .f32) (ix2 a l) = (m ((c : Thread nD τ).loc main_arg2) : FVec Ideal S16384x7168 .f32) (ix2 n (⟨4096 + l.val, by omega⟩ : Fin 7168)) := by
  have ht := (idx t).2.2
  rw [show n = (⟨t.val * 256 + a.val, by omega⟩ : Fin 16384) from Fin.ext h]
  blk_point [iblk, V, idx t]

theorem rd5 (c : Dev nD) (t : Fin cfg0.N) (a : Fin 256) (l : Fin 1024) (n : Fin 16384) (h : n.val = t.val * 256 + a.val) :
    (iblk m c 5 t : FVec Ideal S256x1024 .f32) (ix2 a l) = (m ((c : Thread nD τ).loc main_arg2) : FVec Ideal S16384x7168 .f32) (ix2 n (⟨5120 + l.val, by omega⟩ : Fin 7168)) := by
  have ht := (idx t).2.2
  rw [show n = (⟨t.val * 256 + a.val, by omega⟩ : Fin 16384) from Fin.ext h]
  blk_point [iblk, V, idx t]

theorem rd6 (c : Dev nD) (t : Fin cfg0.N) (a : Fin 256) (l : Fin 1024) (n : Fin 16384) (h : n.val = t.val * 256 + a.val) :
    (iblk m c 6 t : FVec Ideal S256x1024 .f32) (ix2 a l) = (m ((c : Thread nD τ).loc main_arg2) : FVec Ideal S16384x7168 .f32) (ix2 n (⟨6144 + l.val, by omega⟩ : Fin 7168)) := by
  have ht := (idx t).2.2
  rw [show n = (⟨t.val * 256 + a.val, by omega⟩ : Fin 16384) from Fin.ext h]
  blk_point [iblk, V, idx t]

theorem whole8 (A : FVec Ideal S4x8x1024 .f32) (t : Fin cfg0.N) (r : Fin 8) (l : Fin 1024) (b : Fin 4)
    (hb : b.val = t.val / 16) : (((cfg0.win 8).blk t).view.read (Elt Ideal) A : FVec Ideal S1x8x1024 .f32) (ix3 (0 : Fin 1) r l)
    = A (ix3 b r l) := by
  have ht := (idx t).2.2
  rw [show b = (⟨t.val / 16, by omega⟩ : Fin 4) from Fin.ext hb]
  blk_point [idx t]

theorem rd8 (c : Dev nD) (t : Fin cfg0.N) (r : Fin 8) (l : Fin 1024) (hr : r.val < 3) (b : Fin 4) (hb : b.val = t.val / 16) :
    (iblk m c 8 t : FVec Ideal S1x8x1024 .f32) (ix3 (0 : Fin 1) r l)
      = (m ((c : Thread nD τ).loc main_arg5) : FVec Ideal S4x6144 .f32) (ix2 b ⟨r.val * 1024 + l.val, by omega⟩) :=
  (whole8 (V m c main_v4) t r l b hb).trans (mod1_rows m c b r l hr)

theorem whole9 (A : FVec Ideal S4x8x1024 .f32) (t : Fin cfg0.N) (r : Fin 8) (l : Fin 1024) (b : Fin 4)
    (hb : b.val = t.val / 16) : (((cfg0.win 9).blk t).view.read (Elt Ideal) A : FVec Ideal S1x8x1024 .f32) (ix3 (0 : Fin 1) r l)
    = A (ix3 b r l) := by
  have ht := (idx t).2.2
  rw [show b = (⟨t.val / 16, by omega⟩ : Fin 4) from Fin.ext hb]
  blk_point [idx t]

theorem rd9 (c : Dev nD) (t : Fin cfg0.N) (r : Fin 8) (l : Fin 1024) (hr : r.val < 3) (b : Fin 4) (hb : b.val = t.val / 16) :
    (iblk m c 9 t : FVec Ideal S1x8x1024 .f32) (ix3 (0 : Fin 1) r l)
      = (m ((c : Thread nD τ).loc main_arg5) : FVec Ideal S4x6144 .f32) (ix2 b ⟨(3 + r.val) * 1024 + l.val, by omega⟩) :=
  (whole9 (V m c main_v7) t r l b hb).trans (mod2_rows m c b r l hr)

theorem rd10 (c : Dev nD) (t : Fin cfg0.N) (l : Fin 512) :
    (iblk m c 10 t : FVec Ideal S1x512 .f32) (ix2 (0 : Fin 1) l) = (m ((c : Thread nD τ).loc main_arg6) : FVec Ideal S512 .f32) (ix1 l) := by
  blk_point [iblk, V, idx t]

theorem rd11 (c : Dev nD) (t : Fin cfg0.N) (k l : Fin 512) :
    (iblk m c 11 t : FVec Ideal S512x512 .bf16) (ix2 k l) = (m ((c : Thread nD τ).loc main_arg7) : FVec Ideal S512x512 .f32) (ix2 k l) := by
  blk_point [iblk, V, idx t]

theorem rd12 (c : Dev nD) (t : Fin cfg0.N) (k l : Fin 512) :
    (iblk m c 12 t : FVec Ideal S512x512 .bf16) (ix2 k l) = (m ((c : Thread nD τ).loc main_arg8) : FVec Ideal S512x512 .f32) (ix2 k l) := by
  blk_point [iblk, V, idx t]

theorem rd13 (c : Dev nD) (t : Fin cfg0.N) (n : Fin 3) (k : Fin 512) (l : Fin 1024) :
    (iblk m c 13 t : FVec Ideal S3x512x1024 .bf16) (ix3 n k l) = (m ((c : Thread nD τ).loc main_arg9) : FVec Ideal S3x512x1024 .f32) (ix3 n k l) := by
  blk_point [iblk, V, idx t]

theorem rd14 (c : Dev nD) (t : Fin cfg0.N) (k l : Fin 1024) :
    (iblk m c 14 t : FVec Ideal S1024x1024 .bf16) (ix2 k l) = (m ((c : Thread nD τ).loc main_arg10) : FVec Ideal S1024x1024 .f32) (ix2 k l) := by
  blk_point [iblk, V, idx t]

theorem rd15 (c : Dev nD) (t : Fin cfg0.N) (l : Fin 1024) :
    (iblk m c 15 t : FVec Ideal S1x1024 .f32) (ix2 (0 : Fin 1) l) = (m ((c : Thread nD τ).loc main_arg11) : FVec Ideal S1024 .f32) (ix1 l) := by
  blk_point [iblk, V, idx t]

theorem whole16 (A : FVec Ideal S1024x128 .f32) (t : Fin cfg0.N) (k : Fin 1024) (l : Fin 128) :
    (((cfg0.win 16).blk t).view.read (Elt Ideal) A : FVec Ideal S1024x128 .f32) (ix2 k l) = A (ix2 k l) := by
  blk_point [idx t]

theorem rd16 (c : Dev nD) (t : Fin cfg0.N) (k : Fin 1024) (l : Fin 128) :
    (iblk m c 16 t : FVec Ideal S1024x128 .f32) (ix2 k l) = (V m c main_v12 : FVec Ideal S1024x128 .f32) (ix2 k l) :=
  whole16 (V m c main_v12) t k l

theorem whole17 (A : FVec Ideal S1x128 .f32) (t : Fin cfg0.N) (k : Fin 1) (l : Fin 128) :
    (((cfg0.win 17).blk t).view.read (Elt Ideal) A : FVec Ideal S1x128 .f32) (ix2 k l) = A (ix2 k l) := by
  blk_point [idx t]

theorem rd17 (c : Dev nD) (t : Fin cfg0.N) (k : Fin 1) (l : Fin 128) :
    (iblk m c 17 t : FVec Ideal S1x128 .f32) (ix2 k l) = (V m c main_v21 : FVec Ideal S1x128 .f32) (ix2 k l) :=
  whole17 (V m c main_v21) t k l

end Cert.MergeIdeal.Result

end
-- ==== Proof.MergeRows.lean ====
module

public import proofs.«01_k».proof.Proof.MergeReads
public import proofs.«01_k».proof.Proof.Gen.MergeIdeal.Value
public import proofs.«01_k».proof.Proof.Gen.MergeRefIdeal.Read
public import proofs.«01_k».proof.Proof.Scatter
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Result

open Cert.MergeIdeal Cert.MergeIdeal.Gen

variable (m : (ℓ : Loc nD τ sig) → Buf (Elt Ideal) ℓ)

/-- The activation of the state-space branch. -/
def act (u : EReal) : EReal :=
  u * (Ideal.ofBits .f32 1056964608#32 * (1 + Ideal.tanh (Ideal.ofBits .f32 1061962282#32
    * (u + Ideal.ofBits .f32 1027024659#32 * (u * (u * u))))))

/-- In the reference: the activation of the branch's output plus its skip. -/
theorem act_ref (x1 : FVec Ideal S16384x512 .f32) (x2 : FVec Ideal S16384x7168 .f32) (x6 : FVec Ideal S512 .f32) (b : Fin 4)
    (r : Fin 4096) (k : Fin 512) : Cert.MergeRefIdeal.Read.val_main_v19 (F := Ideal) x1 x2 x6 (ix3 b r k)
    = act (x1 (ix2 (⟨b.val * 4096 + r.val, by omega⟩ : Fin 16384) k) + x6 (ix1 k)
        * x2 (ix2 (⟨b.val * 4096 + r.val, by omega⟩ : Fin 16384) (⟨2048 + k.val, by omega⟩ : Fin 7168))) := by
  pointwise [Cert.MergeRefIdeal.Read.val_main_v19, Cert.MergeRefIdeal.Read.val_main_v18,
    Cert.MergeRefIdeal.Read.val_main_v17, Cert.MergeRefIdeal.Read.val_main_cst_2,
    Cert.MergeRefIdeal.Read.val_main_v16, Cert.MergeRefIdeal.Read.val_main_v15,
    Cert.MergeRefIdeal.Read.val_main_cst_1, Cert.MergeRefIdeal.Read.val_main_v14,
    Cert.MergeRefIdeal.Read.val_main_v13, Cert.MergeRefIdeal.Read.val_main_v12,
    Cert.MergeRefIdeal.Read.val_main_cst_0, Cert.MergeRefIdeal.Read.val_main_v11,
    Cert.MergeRefIdeal.Read.val_main_v10, Cert.MergeRefIdeal.Read.val_main_v9, Cert.MergeRefIdeal.Read.val_main_cst,
    Cert.MergeRefIdeal.Read.val_main_v8, Cert.MergeRefIdeal.Read.val_main_v7, Cert.MergeRefIdeal.Read.val_main_v6,
    Cert.MergeRefIdeal.Read.val_main_v5, Cert.MergeRefIdeal.Read.val_main_v4, Cert.MergeRefIdeal.Read.val_main_v3,
    Cert.MergeRefIdeal.Read.val_main_v2, Cert.MergeRefIdeal.Read.val_main_v1, Cert.MergeRefIdeal.Read.val_main_v0]
  simp only [act, mul_assoc]

/-- The state-space branch's gated rows, as the body computes them. -/
def s5rows (c : Dev nD) (t : Fin cfg0.N) : FVec Ideal S256x512 .f32 :=
  k0_pay3 (F := Ideal) (iblk m c 1 t) (iblk m c 10 t) (iblk m c 2 t) (iblk m c 11 t) (iblk m c 12 t)

/-- They are the reference's. -/
theorem s5_point (c : Dev nD) (t : Fin cfg0.N) (a : Fin 256) (l : Fin 512) (b : Fin 4) (r : Fin 4096)
    (h : b.val * 4096 + r.val = t.val * 256 + a.val) : s5rows m c t (ix2 a l)
    = Cert.MergeRefIdeal.Read.val_main_v28 (F := Ideal) (m ((c : Thread nD τ).loc main_arg1)) (m ((c : Thread nD τ).loc main_arg2)) (m ((c : Thread nD τ).loc main_arg6))
        (m ((c : Thread nD τ).loc main_arg7)) (m ((c : Thread nD τ).loc main_arg8)) (ix3 b r l) := by
  pointwise [s5rows, k0_pay3, Cert.MergeRefIdeal.Read.val_main_v28, Cert.MergeRefIdeal.Read.val_main_v27,
    Cert.MergeRefIdeal.Read.val_main_v26, Cert.MergeRefIdeal.Read.val_main_cst_4,
    Cert.MergeRefIdeal.Read.val_main_v25, Cert.MergeRefIdeal.Read.val_main_v24,
    Cert.MergeRefIdeal.Read.val_main_cst_3, Cert.MergeRefIdeal.Read.val_main_v23,
    Cert.MergeRefIdeal.Read.val_main_v22, Cert.MergeRefIdeal.Read.val_main_v21, Cert.MergeRefIdeal.Read.val_main_v20]
  simp only [act_ref, rd1 m c t a _ (⟨b.val * 4096 + r.val, by omega⟩ : Fin 16384) h,
    rd2 m c t a _ (⟨b.val * 4096 + r.val, by omega⟩ : Fin 16384) h, rd10, rd11, rd12]
  rfl

/-- The reference's new residual stream. -/
def refX (x0 x1 : FVec Ideal S16384x512 .f32) (x2 : FVec Ideal S16384x7168 .f32) (x3 : FVec Ideal S16384x512 .f32)
    (x4 : FVec Ideal S16384x1024 .f32) (x5 : FVec Ideal S4x6144 .f32) (x6 : FVec Ideal S512 .f32) (x7 x8 : FVec Ideal S512x512 .f32)
    (x9 : FVec Ideal S3x512x1024 .f32) (x10 : FVec Ideal S1024x1024 .f32) : FVec Ideal S16384x1024 .f32 :=
  Cert.MergeRefIdeal.Read.val_main_v89 (F := Ideal) x0 x1 x2 x3 x4 x5 x6 x7 x8 x9 x10

/-- The reference's normalised rows, which the experts and the router read. -/
def refH (x0 x1 : FVec Ideal S16384x512 .f32) (x2 : FVec Ideal S16384x7168 .f32) (x3 : FVec Ideal S16384x512 .f32)
    (x4 : FVec Ideal S16384x1024 .f32) (x5 : FVec Ideal S4x6144 .f32) (x6 : FVec Ideal S512 .f32) (x7 x8 : FVec Ideal S512x512 .f32)
    (x9 : FVec Ideal S3x512x1024 .f32) (x10 : FVec Ideal S1024x1024 .f32) (x11 : FVec Ideal S1024 .f32) :
    FVec Ideal S16384x1024 .f32 :=
  Cert.MergeRefIdeal.Read.val_main_v78 (F := Ideal) x0 x1 x2 x3 x4 x5 x6 x7 x8 x9 x10 x11

/-- The reference's router logits, padded to 128 columns. -/
def refL (x0 x1 : FVec Ideal S16384x512 .f32) (x2 : FVec Ideal S16384x7168 .f32) (x3 : FVec Ideal S16384x512 .f32)
    (x4 : FVec Ideal S16384x1024 .f32) (x5 : FVec Ideal S4x6144 .f32) (x6 : FVec Ideal S512 .f32) (x7 x8 : FVec Ideal S512x512 .f32)
    (x9 : FVec Ideal S3x512x1024 .f32) (x10 : FVec Ideal S1024x1024 .f32) (x11 : FVec Ideal S1024 .f32)
    (x12 : FVec Ideal S1024x4 .f32) (x13 : FVec Ideal S4 .f32) (x14 : FVec Ideal S1024x32 .f32) (x15 : FVec Ideal S32 .f32) :
    FVec Ideal S16384x128 .f32 :=
  Cert.MergeRefIdeal.Read.val_main_v88 (F := Ideal) x0 x1 x2 x3 x4 x5 x6 x7 x8 x9 x10 x11 x12 x13 x14 x15

/-- The reference's gated sum of the three branches, written out. -/
theorem mixed (x0 x1 : FVec Ideal S16384x512 .f32) (x2 : FVec Ideal S16384x7168 .f32) (x3 : FVec Ideal S16384x512 .f32)
    (x6 : FVec Ideal S512 .f32) (x7 x8 : FVec Ideal S512x512 .f32) (x9 : FVec Ideal S3x512x1024 .f32) (b : Fin 4) (r : Fin 4096)
    (j : Fin 1024) : Cert.MergeRefIdeal.Read.val_main_v46 (F := Ideal) x0 x1 x2 x3 x6 x7 x8 x9 (ix3 b r j)
    = Ideal.div 1 (1 + Ideal.exp (-x2 (ix2 (⟨b.val * 4096 + r.val, by omega⟩ : Fin 16384) (⟨4096 + j.val, by omega⟩ : Fin 7168))))
          * (∑ k : Fin 512, x0 (ix2 (⟨b.val * 4096 + r.val, by omega⟩ : Fin 16384) k) * x9 (ix3 (0 : Fin 3) k j))
      + Ideal.div 1 (1 + Ideal.exp (-x2 (ix2 (⟨b.val * 4096 + r.val, by omega⟩ : Fin 16384) (⟨5120 + j.val, by omega⟩ : Fin 7168))))
          * (∑ k : Fin 512, Cert.MergeRefIdeal.Read.val_main_v28 (F := Ideal) x1 x2 x6 x7 x8 (ix3 b r k) * x9 (ix3 (1 : Fin 3) k j))
      + Ideal.div 1 (1 + Ideal.exp (-x2 (ix2 (⟨b.val * 4096 + r.val, by omega⟩ : Fin 16384) (⟨6144 + j.val, by omega⟩ : Fin 7168))))
          * (∑ k : Fin 512, x3 (ix2 (⟨b.val * 4096 + r.val, by omega⟩ : Fin 16384) k) * x9 (ix3 (2 : Fin 3) k j)) := by
  pointwise [Cert.MergeRefIdeal.Read.val_main_v0, Cert.MergeRefIdeal.Read.val_main_v46,
    Cert.MergeRefIdeal.Read.val_main_cst_7, Cert.MergeRefIdeal.Read.val_main_v45,
    Cert.MergeRefIdeal.Read.val_main_v44, Cert.MergeRefIdeal.Read.val_main_v43,
    Cert.MergeRefIdeal.Read.val_main_v42, Cert.MergeRefIdeal.Read.val_main_cst_6,
    Cert.MergeRefIdeal.Read.val_main_v41, Cert.MergeRefIdeal.Read.val_main_v40,
    Cert.MergeRefIdeal.Read.val_main_cst_5, Cert.MergeRefIdeal.Read.val_main_v39,
    Cert.MergeRefIdeal.Read.val_main_v38, Cert.MergeRefIdeal.Read.val_main_v37,
    Cert.MergeRefIdeal.Read.val_main_v36, Cert.MergeRefIdeal.Read.val_main_v35,
    Cert.MergeRefIdeal.Read.val_main_v34, Cert.MergeRefIdeal.Read.val_main_v33,
    Cert.MergeRefIdeal.Read.val_main_v32, Cert.MergeRefIdeal.Read.val_main_v31,
    Cert.MergeRefIdeal.Read.val_main_v30, Cert.MergeRefIdeal.Read.val_main_v29]
  rw [Fin.sum_univ_three]
  simp only [mul_comm (x9 _)]
  simp [Nat.reduceAdd, ← Nat.add_assoc]

/-- The residual rows, as the body computes them. -/
def rows (c : Dev nD) (t : Fin cfg0.N) : FVec Ideal S256x1024 .f32 :=
  k0_pay7 (F := Ideal) (s5rows m c t) (k0_pay4 (iblk m c 4 t)) (k0_pay5 (iblk m c 0 t))
    (k0_pay6 (fun y => (iblk m c 13 t : FVec Ideal S3x512x1024 .bf16) (ix3 (0 : Fin 3) (y 1) (y 2))))
    (constant S256x1024 .f32 0x00000000#32) (iblk m c 5 t)
    (fun y => (iblk m c 13 t : FVec Ideal S3x512x1024 .bf16) (ix3 (1 : Fin 3) (y 1) (y 2))) (iblk m c 6 t) (iblk m c 3 t)
    (fun y => (iblk m c 13 t : FVec Ideal S3x512x1024 .bf16) (ix3 (2 : Fin 3) (y 1) (y 2))) (iblk m c 14 t) (iblk m c 7 t)
    (fun y => (iblk m c 8 t : FVec Ideal S1x8x1024 .f32) (ix3 (0 : Fin 1) (2 : Fin 8) (y 2)))

/-- They are the reference's. -/
theorem rows_point (c : Dev nD) (t : Fin cfg0.N) (a : Fin 256) (l : Fin 1024) (b : Fin 4) (r : Fin 4096)
    (h : b.val * 4096 + r.val = t.val * 256 + a.val) : rows m c t (ix2 a l)
    = Cert.MergeRefIdeal.Read.val_main_v58 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (ix3 b r l) := by
  have ht := (idx t).2.2
  pointwise [rows, k0_pay4, k0_pay5, k0_pay6, k0_pay7, Cert.MergeRefIdeal.Read.val_main_v89, Cert.MergeRefIdeal.Read.val_main_v58,
    Cert.MergeRefIdeal.Read.val_main_v57, Cert.MergeRefIdeal.Read.val_main_v56,
    Cert.MergeRefIdeal.Read.val_main_v55, Cert.MergeRefIdeal.Read.val_main_v54,
    Cert.MergeRefIdeal.Read.val_main_v53, Cert.MergeRefIdeal.Read.val_main_v52,
    Cert.MergeRefIdeal.Read.val_main_v51, Cert.MergeRefIdeal.Read.val_main_v50,
    Cert.MergeRefIdeal.Read.val_main_v49, Cert.MergeRefIdeal.Read.val_main_v48, Cert.MergeRefIdeal.Read.val_main_v47]
  simp only [mixed, s5_point m c t a _ b r h, rd0 m c t a _ (⟨b.val * 4096 + r.val, by omega⟩ : Fin 16384) h,
    rd3 m c t a _ (⟨b.val * 4096 + r.val, by omega⟩ : Fin 16384) h, rd4 m c t a _ (⟨b.val * 4096 + r.val, by omega⟩ : Fin 16384) h,
    rd5 m c t a _ (⟨b.val * 4096 + r.val, by omega⟩ : Fin 16384) h, rd6 m c t a _ (⟨b.val * 4096 + r.val, by omega⟩ : Fin 16384) h,
    rd7 m c t a _ (⟨b.val * 4096 + r.val, by omega⟩ : Fin 16384) h, rd8 m c t 2 _ (by decide) b (by omega), rd13, rd14]
  rfl

end Cert.MergeIdeal.Result

end
-- ==== Proof.MergeValue.lean ====
module

public import proofs.«01_k».proof.Proof.MergeRows
public import proofs.«01_k».proof.Proof.Gen.MergeIdeal.Value
public import proofs.«01_k».proof.Proof.Gen.MergeRefIdeal.Read
public import proofs.«01_k».proof.Proof.Scatter
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Result

open Cert.MergeIdeal Cert.MergeIdeal.Gen

variable (m : (ℓ : Loc nD τ sig) → Buf (Elt Ideal) ℓ)

/-- The rows against the reference's new residual stream. -/
theorem stream_point (c : Dev nD) (t : Fin cfg0.N) (a : Fin 256) (l : Fin 1024) (n : Fin 16384)
    (h : n.val = t.val * 256 + a.val) :
    rows m c t (ix2 a l) = refX (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (ix2 n l) := by
  rw [rows_point m c t a l (⟨n.val / 4096, by omega⟩ : Fin 4) (⟨n.val % 4096, by omega⟩ : Fin 4096) (by show n.val / 4096 * 4096 + n.val % 4096 = _; omega)]
  pointwise [refX, Cert.MergeRefIdeal.Read.val_main_v89]

/-- Each row's sum of squares, as the body computes it. -/
def squares (R : FVec Ideal S256x1024 .f32) : FVec Ideal S256x1 .f32 :=
  shapeCast S256x1 (multiReduction .add [1] S256 (mulf R R) 0x00000000#32 reduces_S256x1024_S256 (.inl rfl) rfl) shapeCasts_S256_S256x1

/-- The normalised rows, as the body computes them. -/
def normed (c : Dev nD) (t : Fin cfg0.N) : FVec Ideal S256x1024 .f32 :=
  k0_pay1 (F := Ideal) (rows m c t) (squares (rows m c t)) (Scalar.ofBits .f32 0x44800000#32) (iblk m c 15 t)
    (fun y => (iblk m c 9 t : FVec Ideal S1x8x1024 .f32) (ix3 (0 : Fin 1) (1 : Fin 8) (y 2)))
    (fun y => (iblk m c 9 t : FVec Ideal S1x8x1024 .f32) (ix3 (0 : Fin 1) (0 : Fin 8) (y 2)))

/-- They are the reference's. -/
theorem normed_point (c : Dev nD) (t : Fin cfg0.N) (a : Fin 256) (l : Fin 1024) (n : Fin 16384)
    (h : n.val = t.val * 256 + a.val) :
    normed m c t (ix2 a l) = refH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (ix2 n l) := by
  have ht := (idx t).2.2
  pointwise [normed, squares, k0_pay1, refH, Cert.MergeRefIdeal.Read.val_main_v78, Cert.MergeRefIdeal.Read.val_main_v77,
    Cert.MergeRefIdeal.Read.val_main_v76, Cert.MergeRefIdeal.Read.val_main_v75,
    Cert.MergeRefIdeal.Read.val_main_v74, Cert.MergeRefIdeal.Read.val_main_v73,
    Cert.MergeRefIdeal.Read.val_main_v72, Cert.MergeRefIdeal.Read.val_main_cst_11,
    Cert.MergeRefIdeal.Read.val_main_v71, Cert.MergeRefIdeal.Read.val_main_v70,
    Cert.MergeRefIdeal.Read.val_main_v69, Cert.MergeRefIdeal.Read.val_main_v68,
    Cert.MergeRefIdeal.Read.val_main_v67, Cert.MergeRefIdeal.Read.val_main_v66,
    Cert.MergeRefIdeal.Read.val_main_v65, Cert.MergeRefIdeal.Read.val_main_v64,
    Cert.MergeRefIdeal.Read.val_main_cst_10, Cert.MergeRefIdeal.Read.val_main_v63,
    Cert.MergeRefIdeal.Read.val_main_v62, Cert.MergeRefIdeal.Read.val_main_cst_9,
    Cert.MergeRefIdeal.Read.val_main_v61, Cert.MergeRefIdeal.Read.val_main_v60,
    Cert.MergeRefIdeal.Read.val_main_cst_8, Cert.MergeRefIdeal.Read.val_main_v59,
    Cert.MergeRefIdeal.Read.val_main_v54, Cert.MergeRefIdeal.Read.val_main_v53,
    Cert.MergeRefIdeal.Read.val_main_v52, Cert.MergeRefIdeal.Read.val_main_v51,
    Cert.MergeRefIdeal.Read.val_main_v50, Cert.MergeRefIdeal.Read.val_main_v49, Cert.MergeRefIdeal.Read.val_main_v48]
  simp only [rows_point m c t a _ (⟨n.val / 4096, by omega⟩ : Fin 4) (⟨n.val % 4096, by omega⟩ : Fin 4096) (by show n.val / 4096 * 4096 + n.val % 4096 = _; omega), rd15,
    rd9 m c t 1 _ (by decide) (⟨n.val / 4096, by omega⟩ : Fin 4) (by show n.val / 4096 = _; omega), rd9 m c t 0 _ (by decide) (⟨n.val / 4096, by omega⟩ : Fin 4) (by show n.val / 4096 = _; omega)]
  rfl

/-- The router's logits of the normalised rows, as the body computes them. -/
def logits (H : FVec Ideal S256x1024 .f32) (w : FVec Ideal S1024x128 .f32) (b : FVec Ideal S1x128 .f32) : FVec Ideal S256x128 .f32 :=
  addf (matmul dot_S256x1024_S1024x128_S256x128_1_0_0_1_n_n (some .fp32) H (shapeCast S1024x128 w shapeCasts_S1024x128_S1024x128)
    (constant S256x128 .f32 0x00000000#32)) (broadcastTo S256x128 (shapeCast S1x128 b shapeCasts_S1x128_S1x128) broadcasts_S1x128_S256x128)

/-- At an index: one row times one column, plus the column's bias. -/
theorem logits_apply (H : FVec Ideal S256x1024 .f32) (w : FVec Ideal S1024x128 .f32) (b : FVec Ideal S1x128 .f32) (a : Fin 256)
    (l : Fin 128) : logits H w b (ix2 a l) = (∑ k : Fin 1024, H (ix2 a k) * w (ix2 k l)) + b (ix2 (0 : Fin 1) l) := by
  pointwise [logits]

/-- They are the reference's: the four group columns, the thirty-two expert columns and the padding. -/
theorem logits_point (c : Dev nD) (t : Fin cfg0.N) (a : Fin 256) (l : Fin 128) (n : Fin 16384)
    (h : n.val = t.val * 256 + a.val) :
    logits (normed m c t) (iblk m c 16 t) (iblk m c 17 t) (ix2 a l) = refL (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (ix2 n l) := by
  rw [logits_apply]
  simp only [normed_point m c t a _ n h, rd16, rd17, refH]
  by_cases h1 : l.val < 4
  · have e : l = (⟨(⟨l.val, h1⟩ : Fin 4).val, by omega⟩ : Fin 128) := rfl
    have ew := fun k => wr_groups m c k ⟨l.val, h1⟩
    have eb := br_groups m c 0 ⟨l.val, h1⟩
    rw [← e] at eb
    simp only [← e] at ew
    simp only [ew, eb]
    pointwise [refL, Cert.MergeRefIdeal.Read.val_main_v88, Cert.MergeRefIdeal.Read.val_main_v87,
    Cert.MergeRefIdeal.Read.val_main_cst_12, Cert.MergeRefIdeal.Read.val_main_v86,
    Cert.MergeRefIdeal.Read.val_main_v85, Cert.MergeRefIdeal.Read.val_main_v84,
    Cert.MergeRefIdeal.Read.val_main_v83, Cert.MergeRefIdeal.Read.val_main_v82,
    Cert.MergeRefIdeal.Read.val_main_v81, Cert.MergeRefIdeal.Read.val_main_v80, Cert.MergeRefIdeal.Read.val_main_v79]
    simp [h1]
  · by_cases h2 : l.val < 36
    · have e : l = (⟨4 + (⟨l.val - 4, by omega⟩ : Fin 32).val, by show 4 + (l.val - 4) < 128; omega⟩ : Fin 128) :=
        Fin.ext (by show l.val = 4 + (l.val - 4); omega)
      have ew := fun k => wr_experts m c k ⟨l.val - 4, by omega⟩
      have eb := br_experts m c 0 ⟨l.val - 4, by omega⟩
      rw [← e] at eb
      simp only [← e] at ew
      simp only [ew, eb]
      pointwise [refL, Cert.MergeRefIdeal.Read.val_main_v88, Cert.MergeRefIdeal.Read.val_main_v87,
    Cert.MergeRefIdeal.Read.val_main_cst_12, Cert.MergeRefIdeal.Read.val_main_v86,
    Cert.MergeRefIdeal.Read.val_main_v85, Cert.MergeRefIdeal.Read.val_main_v84,
    Cert.MergeRefIdeal.Read.val_main_v83, Cert.MergeRefIdeal.Read.val_main_v82,
    Cert.MergeRefIdeal.Read.val_main_v81, Cert.MergeRefIdeal.Read.val_main_v80, Cert.MergeRefIdeal.Read.val_main_v79]
      simp [h1, h2]
      exact fun hc => absurd hc (by omega)
    · have ew := fun k => wr_rest m c k l (by omega)
      have eb := br_rest m c 0 l (by omega)
      simp only [ew, eb]
      pointwise [refL, Cert.MergeRefIdeal.Read.val_main_v88, Cert.MergeRefIdeal.Read.val_main_v87,
    Cert.MergeRefIdeal.Read.val_main_cst_12, Cert.MergeRefIdeal.Read.val_main_v86,
    Cert.MergeRefIdeal.Read.val_main_v85, Cert.MergeRefIdeal.Read.val_main_v84,
    Cert.MergeRefIdeal.Read.val_main_v83, Cert.MergeRefIdeal.Read.val_main_v82,
    Cert.MergeRefIdeal.Read.val_main_v81, Cert.MergeRefIdeal.Read.val_main_v80, Cert.MergeRefIdeal.Read.val_main_v79]
      simp [h1, h2]
      exact fun hc => absurd hc (by omega)

/-! The rows and parts the body loads out of a stacked block. -/

theorem load4 (X : FVec Ideal S3x512x1024 .bf16) :
    (View.ld (Val := Elt Ideal) (S := S3x512x1024) (e' := .bf16) X r0_4 : S1x512x1024.Idx → Elt Ideal .bf16)
      = fun y => X (ix3 (0 : Fin 3) (y 1) (y 2)) := by
  funext y
  refine congrArg X (funext fun a => ?_)
  have h0 := (y 0).isLt
  have h1 := (y 1).isLt
  match a with
  | ⟨0, _⟩ => exact Fin.ext (by simp [LoadRect.idx, Rect.unit, ix3] at h0 ⊢ <;> omega)
  | ⟨1, _⟩ => exact Fin.ext (by simp [LoadRect.idx, Rect.unit, ix3] at h1 ⊢ <;> omega)
  | ⟨2, _⟩ => exact Fin.ext (by simp [LoadRect.idx, Rect.unit, ix3])

theorem load5 (X : FVec Ideal S3x512x1024 .bf16) :
    (View.ld (Val := Elt Ideal) (S := S3x512x1024) (e' := .bf16) X r0_5 : S1x512x1024.Idx → Elt Ideal .bf16)
      = fun y => X (ix3 (1 : Fin 3) (y 1) (y 2)) := by
  funext y
  refine congrArg X (funext fun a => ?_)
  have h0 := (y 0).isLt
  have h1 := (y 1).isLt
  match a with
  | ⟨0, _⟩ => exact Fin.ext (by simp [LoadRect.idx, Rect.unit, ix3] at h0 ⊢ <;> omega)
  | ⟨1, _⟩ => exact Fin.ext (by simp [LoadRect.idx, Rect.unit, ix3] at h1 ⊢ <;> omega)
  | ⟨2, _⟩ => exact Fin.ext (by simp [LoadRect.idx, Rect.unit, ix3])

theorem load6 (X : FVec Ideal S3x512x1024 .bf16) :
    (View.ld (Val := Elt Ideal) (S := S3x512x1024) (e' := .bf16) X r0_6 : S1x512x1024.Idx → Elt Ideal .bf16)
      = fun y => X (ix3 (2 : Fin 3) (y 1) (y 2)) := by
  funext y
  refine congrArg X (funext fun a => ?_)
  have h0 := (y 0).isLt
  have h1 := (y 1).isLt
  match a with
  | ⟨0, _⟩ => exact Fin.ext (by simp [LoadRect.idx, Rect.unit, ix3] at h0 ⊢ <;> omega)
  | ⟨1, _⟩ => exact Fin.ext (by simp [LoadRect.idx, Rect.unit, ix3] at h1 ⊢ <;> omega)
  | ⟨2, _⟩ => exact Fin.ext (by simp [LoadRect.idx, Rect.unit, ix3])

theorem load8 (X : FVec Ideal S1x8x1024 .f32) :
    (View.ld (Val := Elt Ideal) (S := S1x8x1024) (e' := .f32) X r0_8 : S1x1x1024.Idx → Elt Ideal .f32)
      = fun y => X (ix3 (0 : Fin 1) (2 : Fin 8) (y 2)) := by
  funext y
  refine congrArg X (funext fun a => ?_)
  have h0 := (y 0).isLt
  have h1 := (y 1).isLt
  match a with
  | ⟨0, _⟩ => exact Fin.ext (by simp [LoadRect.idx, Rect.unit, ix3] at h0 ⊢ <;> omega)
  | ⟨1, _⟩ => exact Fin.ext (by simp [LoadRect.idx, Rect.unit, ix3] at h1 ⊢ <;> omega)
  | ⟨2, _⟩ => exact Fin.ext (by simp [LoadRect.idx, Rect.unit, ix3])

theorem load10 (X : FVec Ideal S1x8x1024 .f32) :
    (View.ld (Val := Elt Ideal) (S := S1x8x1024) (e' := .f32) X r0_10 : S1x1x1024.Idx → Elt Ideal .f32)
      = fun y => X (ix3 (0 : Fin 1) (1 : Fin 8) (y 2)) := by
  funext y
  refine congrArg X (funext fun a => ?_)
  have h0 := (y 0).isLt
  have h1 := (y 1).isLt
  match a with
  | ⟨0, _⟩ => exact Fin.ext (by simp [LoadRect.idx, Rect.unit, ix3] at h0 ⊢ <;> omega)
  | ⟨1, _⟩ => exact Fin.ext (by simp [LoadRect.idx, Rect.unit, ix3] at h1 ⊢ <;> omega)
  | ⟨2, _⟩ => exact Fin.ext (by simp [LoadRect.idx, Rect.unit, ix3])

theorem load11 (X : FVec Ideal S1x8x1024 .f32) :
    (View.ld (Val := Elt Ideal) (S := S1x8x1024) (e' := .f32) X r0_11 : S1x1x1024.Idx → Elt Ideal .f32)
      = fun y => X (ix3 (0 : Fin 1) (0 : Fin 8) (y 2)) := by
  funext y
  refine congrArg X (funext fun a => ?_)
  have h0 := (y 0).isLt
  have h1 := (y 1).isLt
  match a with
  | ⟨0, _⟩ => exact Fin.ext (by simp [LoadRect.idx, Rect.unit, ix3] at h0 ⊢ <;> omega)
  | ⟨1, _⟩ => exact Fin.ext (by simp [LoadRect.idx, Rect.unit, ix3] at h1 ⊢ <;> omega)
  | ⟨2, _⟩ => exact Fin.ext (by simp [LoadRect.idx, Rect.unit, ix3])

/-- What a point writes to the stream. -/
theorem block18 (c : Dev nD) (t : Fin cfg0.N) : (dats m 0 c).after 18 t = rows m c t := by
  rw [after0_18]
  unfold_out out0_18
  frame_out
  rw [load4, load5, load6, load8]
  rfl

/-- What a point writes to the normalised rows. -/
theorem block19 (c : Dev nD) (t : Fin cfg0.N) : (dats m 0 c).after 19 t = normed m c t := by
  rw [after0_19]
  unfold_out out0_19
  frame_out
  rw [load4, load5, load6, load8, load10, load11]
  rfl

/-- What a point writes to the logits. -/
theorem block20 (c : Dev nD) (t : Fin cfg0.N) :
    (dats m 0 c).after 20 t = logits (normed m c t) (iblk m c 16 t) (iblk m c 17 t) := by
  rw [after0_20]
  unfold_out out0_20
  frame_out
  rw [load4, load5, load6, load8, load10, load11]
  rfl

/-- The value of the residual stream. -/
theorem finalX (c : Dev nD) : (dats m 0 c).arrAt 18 (cfgs 0).N
    = refX (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (dats m 0 c).arrAt_eq_of_covers 18 _ (by decide +kernel) fun t _ y => ?_
  blk_simp
  rw [block18 m c t]
  have ht := (idx t).2.2
  have h0 := (y 0).isLt
  refine ((congrArg _ (eq_ix2 y)).trans (stream_point m c t (y 0) (y 1) (⟨t.val * 256 + (y 0).val, by simp at h0; omega⟩ : Fin 16384) rfl)).trans ?_
  refine congrArg _ (funext fun a => ?_)
  match a with
  | ⟨0, _⟩ => exact Fin.ext (by simp [ix2, idx t] <;> omega)
  | ⟨1, _⟩ => exact Fin.ext (by simp [ix2, idx t] <;> omega)

/-- The value of the normalised rows. -/
theorem finalH (c : Dev nD) : (dats m 0 c).arrAt 19 (cfgs 0).N
    = refH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (dats m 0 c).arrAt_eq_of_covers 19 _ (by decide +kernel) fun t _ y => ?_
  blk_simp
  rw [block19 m c t]
  have ht := (idx t).2.2
  have h0 := (y 0).isLt
  refine ((congrArg _ (eq_ix2 y)).trans (normed_point m c t (y 0) (y 1) (⟨t.val * 256 + (y 0).val, by simp at h0; omega⟩ : Fin 16384) rfl)).trans ?_
  refine congrArg _ (funext fun a => ?_)
  match a with
  | ⟨0, _⟩ => exact Fin.ext (by simp [ix2, idx t] <;> omega)
  | ⟨1, _⟩ => exact Fin.ext (by simp [ix2, idx t] <;> omega)

/-- The value of the logits. -/
theorem finalL (c : Dev nD) : (dats m 0 c).arrAt 20 (cfgs 0).N
    = refL (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) := by
  refine (dats m 0 c).arrAt_eq_of_covers 20 _ (by decide +kernel) fun t _ y => ?_
  blk_simp
  rw [block20 m c t]
  have ht := (idx t).2.2
  have h0 := (y 0).isLt
  refine ((congrArg _ (eq_ix2 y)).trans (logits_point m c t (y 0) (y 1) (⟨t.val * 256 + (y 0).val, by simp at h0; omega⟩ : Fin 16384) rfl)).trans ?_
  refine congrArg _ (funext fun a => ?_)
  match a with
  | ⟨0, _⟩ => exact Fin.ext (by simp [ix2, idx t] <;> omega)
  | ⟨1, _⟩ => exact Fin.ext (by simp [ix2, idx t] <;> omega)

end Cert.MergeIdeal.Result

end
-- ==== Proof.NormValue.lean ====
/-
  The final RMS norm: the kernel's output array is the reference's term of the same arguments.
-/
module

public import proofs.«01_k».proof.Proof.Gen.NormIdeal.Value
public import proofs.«01_k».proof.Proof.Gen.NormRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormIdeal.Result

open Cert.NormIdeal Cert.NormIdeal.Gen

variable (m : (ℓ : Loc nD τ sig) → Buf (Elt Ideal) ℓ)

/-- The reference's result over a residual stream `x` and a gain `g`. -/
def ref (x : FVec Ideal S16384x1024 .f32) (g : FVec Ideal S1024 .f32) : FVec Ideal S16384x1024 .f32 :=
  Cert.NormRefIdeal.Read.val_main_v14 (F := Ideal) x g

/-- Row block `t` of the stream and of the result is block `t`; the gain's one block is the whole row. -/
theorem idx : ∀ t : Fin cfg0.N, win0_0.index t = ![t.val, 0] ∧ win0_1.index t = ![0, 0] ∧ win0_2.index t = ![t.val, 0]
    ∧ t.val < 32 :=
  (by decide +kernel : ∀ t : Fin grid0.N, win0_0.index t = ![t.val, 0] ∧ win0_1.index t = ![0, 0] ∧ win0_2.index t = ![t.val, 0]
    ∧ t.val < 32)

/-- What the body stores at an index of point `t`'s block is the reference's result where that index sits. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, Cert.NormRefIdeal.Read.val_main_v14, Cert.NormRefIdeal.Read.val_main_v13,
    Cert.NormRefIdeal.Read.val_main_v12, Cert.NormRefIdeal.Read.val_main_v11, Cert.NormRefIdeal.Read.val_main_v10,
    Cert.NormRefIdeal.Read.val_main_v9, Cert.NormRefIdeal.Read.val_main_v8, Cert.NormRefIdeal.Read.val_main_v7,
    Cert.NormRefIdeal.Read.val_main_v6, Cert.NormRefIdeal.Read.val_main_v5, Cert.NormRefIdeal.Read.val_main_v4,
    Cert.NormRefIdeal.Read.val_main_v3, Cert.NormRefIdeal.Read.val_main_v2, Cert.NormRefIdeal.Read.val_main_v1,
    Cert.NormRefIdeal.Read.val_main_v0, Cert.NormRefIdeal.Read.val_main_cst, Cert.NormRefIdeal.Read.val_main_cst_0,
    Cert.NormRefIdeal.Read.val_main_cst_1]
  blk_point [iblk, V, idx t]

/-- The output array after the run is the reference's result of the argument arrays. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NormIdeal.Result

end
-- ==== Proof.ShortValue.lean ====
/-
  The short convolution: the kernel's two output arrays are the reference's terms of the same arguments.
-/
module

public import proofs.«01_k».proof.Proof.Gen.ShortIdeal.Value
public import proofs.«01_k».proof.Proof.Gen.ShortRefIdeal.Read
public import Idealize.ShloMosaic.Lib.KernelVsHost
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ShortIdeal.Result

open Cert.ShortIdeal Cert.ShortIdeal.Gen

variable (m : (ℓ : Loc nD τ sig) → Buf (Elt Ideal) ℓ)

/-- The first result of the reference: the gate. -/
def refA (z : FVec Ideal S16384x7168 .f32) (w : FVec Ideal S3x1536 .f32) (b : FVec Ideal S1536 .f32) :
    FVec Ideal S16384x512 .f32 :=
  Cert.ShortRefIdeal.Read.val_main_v29 (F := Ideal) z w b

/-- The second result of the reference: the product of the other two parts. -/
def refB (z : FVec Ideal S16384x7168 .f32) (w : FVec Ideal S3x1536 .f32) (b : FVec Ideal S1536 .f32) :
    FVec Ideal S16384x512 .f32 :=
  Cert.ShortRefIdeal.Read.val_main_v31 (F := Ideal) z w b

/-- Point `t` works on sequence `t / 2` and columns `t % 2` of each of the three parts. -/
theorem idx : ∀ t : Fin cfg0.N, win0_0.index t = ![t.val / 2, 10 + t.val % 2] ∧ win0_1.index t = ![t.val / 2, 12 + t.val % 2]
    ∧ win0_2.index t = ![t.val / 2, 14 + t.val % 2] ∧ win0_3.index t = ![0, t.val % 2] ∧ win0_4.index t = ![0, 2 + t.val % 2]
    ∧ win0_5.index t = ![0, 4 + t.val % 2] ∧ win0_6.index t = ![t.val / 2, t.val % 2] ∧ win0_7.index t = ![t.val / 2, t.val % 2]
    ∧ t.val < 8 :=
  (by decide +kernel : ∀ t : Fin grid0.N, win0_0.index t = ![t.val / 2, 10 + t.val % 2]
    ∧ win0_1.index t = ![t.val / 2, 12 + t.val % 2] ∧ win0_2.index t = ![t.val / 2, 14 + t.val % 2]
    ∧ win0_3.index t = ![0, t.val % 2] ∧ win0_4.index t = ![0, 2 + t.val % 2] ∧ win0_5.index t = ![0, 4 + t.val % 2]
    ∧ win0_6.index t = ![t.val / 2, t.val % 2] ∧ win0_7.index t = ![t.val / 2, t.val % 2] ∧ t.val < 8)

/-- Three taps and a bias, summed from the left. -/
def taps (p q n w0 w1 w2 b : EReal) : EReal := p * w0 + q * w1 + n * w2 + b

/-- The row before, and zero before the first row. -/
theorem prev_at (x : FVec Ideal S4096x256 .f32) (r : Fin 4096) (l : Fin 256) :
    (select (cmpi .eq (iota .tc S4096x256 32 [0] iota_S4096x256_d0_w32) (broadcast S4096x256 0#32))
      (broadcast S4096x256 (Scalar.ofBits (F := Ideal) .f32 0x00000000#32))
      (dynamicRotate 0 1#32 none x rotates_S4096x256_d0) : FVec Ideal S4096x256 .f32) (ix2 r l)
      = if h : r.val = 0 then (0 : EReal) else x (ix2 ⟨r.val - 1, by omega⟩ l) := by
  have hr := r.isLt
  show (if BitVec.ofBool (BitVec.ofNat 32 (0 * 4096 + r.val) == 0#32) = 1 then (Scalar.ofBits (F := Ideal) .f32 0x00000000#32)
    else dynamicRotate 0 1#32 none x rotates_S4096x256_d0 (ix2 r l)) = _
  by_cases h : r.val = 0
  · rw [dif_pos h, h, if_pos (by decide)]
    pointwise
  · have hne : ¬ BitVec.ofBool (BitVec.ofNat 32 (0 * 4096 + r.val) == 0#32) = 1 := by
      have : BitVec.ofNat 32 (0 * 4096 + r.val) ≠ 0#32 := fun e => h (by
        have := congrArg BitVec.toNat e
        simp at this
        omega)
      rw [beq_false_of_ne this]
      decide
    rw [dif_neg h, if_neg hne]
    refine dynamicRotate_apply _ _ _ _ _ _ fun b => ?_
    match b with
    | ⟨0, _⟩ => simp [ix2]; omega
    | ⟨1, _⟩ => simp [ix2]

/-- The row after, and zero after the last row. -/
theorem next_at (x : FVec Ideal S4096x256 .f32) (r : Fin 4096) (l : Fin 256) :
    (select (cmpi .eq (iota .tc S4096x256 32 [0] iota_S4096x256_d0_w32) (broadcast S4096x256 4095#32))
      (broadcast S4096x256 (Scalar.ofBits (F := Ideal) .f32 0x00000000#32))
      (dynamicRotate 0 4095#32 none x rotates_S4096x256_d0) : FVec Ideal S4096x256 .f32) (ix2 r l)
      = if h : r.val = 4095 then (0 : EReal) else x (ix2 ⟨r.val + 1, by omega⟩ l) := by
  have hr := r.isLt
  show (if BitVec.ofBool (BitVec.ofNat 32 (0 * 4096 + r.val) == 4095#32) = 1 then (Scalar.ofBits (F := Ideal) .f32 0x00000000#32)
    else dynamicRotate 0 4095#32 none x rotates_S4096x256_d0 (ix2 r l)) = _
  by_cases h : r.val = 4095
  · rw [dif_pos h, h, if_pos (by decide)]
    pointwise
  · have hne : ¬ BitVec.ofBool (BitVec.ofNat 32 (0 * 4096 + r.val) == 4095#32) = 1 := by
      have : BitVec.ofNat 32 (0 * 4096 + r.val) ≠ 4095#32 := fun e => h (by
        have := congrArg BitVec.toNat e
        simp at this
        omega)
      rw [beq_false_of_ne this]
      decide
    rw [dif_neg h, if_neg hne]
    refine dynamicRotate_apply _ _ _ _ _ _ fun b => ?_
    match b with
    | ⟨0, _⟩ => simp [ix2]; omega
    | ⟨1, _⟩ => simp [ix2]

/-- A row of the weights, spread over the rows. -/
theorem row0 (w : FVec Ideal S8x256 .f32) (r : Fin 4096) (l : Fin 256) :
    (broadcastTo S4096x256 (extractStridedSlice S1x256 ![0, 0] (shapeCast S8x256 w shapeCasts_S8x256_S8x256)
      slices_S8x256_o0_0_S1x256) broadcasts_S1x256_S4096x256 : FVec Ideal S4096x256 .f32) (ix2 r l) = w (ix2 0 l) := by
  pointwise

theorem row1 (w : FVec Ideal S8x256 .f32) (r : Fin 4096) (l : Fin 256) :
    (broadcastTo S4096x256 (extractStridedSlice S1x256 ![1, 0] (shapeCast S8x256 w shapeCasts_S8x256_S8x256)
      slices_S8x256_o1_0_S1x256) broadcasts_S1x256_S4096x256 : FVec Ideal S4096x256 .f32) (ix2 r l) = w (ix2 1 l) := by
  pointwise

theorem row2 (w : FVec Ideal S8x256 .f32) (r : Fin 4096) (l : Fin 256) :
    (broadcastTo S4096x256 (extractStridedSlice S1x256 ![2, 0] (shapeCast S8x256 w shapeCasts_S8x256_S8x256)
      slices_S8x256_o2_0_S1x256) broadcasts_S1x256_S4096x256 : FVec Ideal S4096x256 .f32) (ix2 r l) = w (ix2 2 l) := by
  pointwise

theorem row3 (w : FVec Ideal S8x256 .f32) (r : Fin 4096) (l : Fin 256) :
    (broadcastTo S4096x256 (extractStridedSlice S1x256 ![3, 0] (shapeCast S8x256 w shapeCasts_S8x256_S8x256)
      slices_S8x256_o3_0_S1x256) broadcasts_S1x256_S4096x256 : FVec Ideal S4096x256 .f32) (ix2 r l) = w (ix2 3 l) := by
  pointwise

/-- The body's convolution of a block at an index. -/
theorem pay_at (x : FVec Ideal S4096x256 .f32) (w : FVec Ideal S8x256 .f32) (r : Fin 4096) (l : Fin 256) :
    k0_pay2 (F := Ideal) x w (ix2 r l)
      = taps (if h : r.val = 0 then 0 else x (ix2 ⟨r.val - 1, by omega⟩ l)) (x (ix2 r l))
          (if h : r.val = 4095 then 0 else x (ix2 ⟨r.val + 1, by omega⟩ l))
          (w (ix2 0 l)) (w (ix2 1 l)) (w (ix2 2 l)) (w (ix2 3 l)) := by
  rw [← prev_at, ← next_at, ← row0 w r l, ← row1 w r l, ← row2 w r l, ← row3 w r l]
  rfl

theorem pay5_eq (x : FVec Ideal S4096x256 .f32) (w : FVec Ideal S8x256 .f32) :
    k0_pay5 (F := Ideal) x (k0_pay3 w) (iota .tc S4096x256 32 [0] iota_S4096x256_d0_w32) (k0_pay4 x) = k0_pay2 x w := rfl

theorem pay6_eq (x : FVec Ideal S4096x256 .f32) (w : FVec Ideal S8x256 .f32) : k0_pay6 (F := Ideal) x w = k0_pay2 x w := rfl

/-- The padded sequence at an index inside the sequence. -/
theorem pad_in (z : FVec Ideal S16384x7168 .f32) (s : Fin 4) (r : Fin 4098) (l : Fin 1536) (h0 : 1 ≤ r.val) (h1 : r.val ≤ 4096) :
    Cert.ShortRefIdeal.Read.val_main_v2 (F := Ideal) z (ix3 s r l)
      = z (ix2 ⟨s.val * 4096 + (r.val - 1), by omega⟩ ⟨2560 + l.val, by omega⟩) := by
  refine (pad_apply_of_inside _ _ _ _ _ _ _ (ix3 s r l) (ix3 s ⟨r.val - 1, by omega⟩ l) ?_).trans ?_
  · intro a
    match a with
    | ⟨0, _⟩ => simp [ix3]
    | ⟨1, _⟩ => simp [ix3]; omega
    | ⟨2, _⟩ => simp [ix3]
  · pointwise [Cert.ShortRefIdeal.Read.val_main_v1, Cert.ShortRefIdeal.Read.val_main_v0]

/-- The padded sequence just outside the sequence. -/
theorem pad_out (z : FVec Ideal S16384x7168 .f32) (s : Fin 4) (r : Fin 4098) (l : Fin 1536) (h : r.val = 0 ∨ r.val = 4097) :
    Cert.ShortRefIdeal.Read.val_main_v2 (F := Ideal) z (ix3 s r l) = (0 : EReal) := by
  refine (pad_apply_of_not_inside _ _ _ _ _ _ _ (ix3 s r l) (1 : Fin 3) ?_).trans ?_
  · simp [ix3]
    omega
  · show ((((0#32 : BitVec 32).toInt : ℝ)) : EReal) = 0
    simp

open Cert.ShortRefIdeal.Read in
/-- The reference's convolution at an index. -/
theorem conv_at (z : FVec Ideal S16384x7168 .f32) (w : FVec Ideal S3x1536 .f32) (b : FVec Ideal S1536 .f32)
    (s : Fin 4) (r : Fin 4096) (l : Fin 1536) :
    val_main_v25 (F := Ideal) z w b (ix3 s r l)
      = taps (val_main_v2 (F := Ideal) z (ix3 s ⟨r.val, by omega⟩ l)) (val_main_v2 (F := Ideal) z (ix3 s ⟨1 + r.val, by omega⟩ l))
          (val_main_v2 (F := Ideal) z (ix3 s ⟨2 + r.val, by omega⟩ l)) (w (ix2 0 l)) (w (ix2 1 l)) (w (ix2 2 l)) (b (ix1 l)) := by
  pointwise [taps, val_main_v25, val_main_v24, val_main_v23, val_main_v22, val_main_v21, val_main_v20, val_main_v19,
    val_main_v18, val_main_v17, val_main_v16, val_main_v15, val_main_v14, val_main_v13, val_main_v12, val_main_v11, val_main_v10,
    val_main_v9, val_main_v8, val_main_v7, val_main_v6, val_main_v5, val_main_v4, val_main_v3]

/-- The padded weights: the taps, the bias, and four rows of zeros. -/
theorem w_rows (c : Dev nD) : (V m c main_v2 : FVec Ideal S8x1536 .f32)
    = concatenate S8x1536 0 [⟨S3x1536, (m ((c : Thread nD τ).loc main_arg1) : FVec Ideal S3x1536 .f32)⟩,
        ⟨S1x1536, (broadcastInDim S1x1536 ![1] bcast_S1536_S1x1536_1 (m ((c : Thread nD τ).loc main_arg2) : FVec Ideal S1536 .f32))⟩,
        ⟨S4x1536, (broadcastInDim S4x1536 ![] bcast_S_S4x1536 (constant (F := Ideal) S_ .f32 0x00000000#32))⟩]
      concatenates_S3x1536_S1x1536_S4x1536_S8x1536_d0 := by
  rfl

/-- Rows 0, 1 and 2 are the taps. -/
theorem w_taps (c : Dev nD) (r : Fin 8) (l : Fin 1536) (hr : r.val < 3) :
    (V m c main_v2 : FVec Ideal S8x1536 .f32) (ix2 r l)
      = (m ((c : Thread nD τ).loc main_arg1) : FVec Ideal S3x1536 .f32) (ix2 ⟨r.val, hr⟩ l) := by
  rw [w_rows]
  refine concatenate_apply_piece (t := S8x1536) 0 _ _ _ 0 ?_ S3x1536
    (m ((c : Thread nD τ).loc main_arg1) : FVec Ideal S3x1536 .f32) ?_ rfl 0 ?_ (ix2 ⟨r.val, hr⟩ l) ?_ ?_
  · simp
  · rfl
  · rfl
  · intro b hb
    match b with
    | ⟨0, _⟩ => exact absurd rfl hb
    | ⟨1, _⟩ => rfl
  · exact Nat.zero_add _

/-- Row 3 is the bias. -/
theorem w_bias (c : Dev nD) (l : Fin 1536) :
    (V m c main_v2 : FVec Ideal S8x1536 .f32) (ix2 3 l)
      = (m ((c : Thread nD τ).loc main_arg2) : FVec Ideal S1536 .f32) (ix1 l) := by
  rw [w_rows]
  refine (concatenate_apply_piece (t := S8x1536) 0 _ _ _ 1 ?_ S1x1536
    (broadcastInDim S1x1536 ![1] bcast_S1536_S1x1536_1 (m ((c : Thread nD τ).loc main_arg2) : FVec Ideal S1536 .f32)) ?_ rfl 3 ?_ (ix2 (0 : Fin 1) l) ?_ ?_).trans ?_
  · simp
  · rfl
  · rfl
  · intro b hb
    match b with
    | ⟨0, _⟩ => exact absurd rfl hb
    | ⟨1, _⟩ => rfl
  · rfl
  · pointwise

/-- The reference's convolution of a column, with the edges spelt out. -/
theorem conv_edges (z : FVec Ideal S16384x7168 .f32) (w : FVec Ideal S3x1536 .f32) (b : FVec Ideal S1536 .f32)
    (s : Fin 4) (r : Fin 4096) (l : Fin 1536) :
    Cert.ShortRefIdeal.Read.val_main_v25 (F := Ideal) z w b (ix3 s r l)
      = taps (if h : r.val = 0 then 0 else z (ix2 ⟨s.val * 4096 + (r.val - 1), by omega⟩ ⟨2560 + l.val, by omega⟩))
          (z (ix2 ⟨s.val * 4096 + r.val, by omega⟩ ⟨2560 + l.val, by omega⟩))
          (if h : r.val = 4095 then 0 else z (ix2 ⟨s.val * 4096 + (r.val + 1), by omega⟩ ⟨2560 + l.val, by omega⟩))
          (w (ix2 0 l)) (w (ix2 1 l)) (w (ix2 2 l)) (b (ix1 l)) := by
  have hr := r.isLt
  have e1 := pad_in z s ⟨1 + r.val, by omega⟩ l (by show 1 ≤ 1 + r.val; omega) (by show 1 + r.val ≤ 4096; omega)
  rw [conv_at, e1]
  have h0 : Cert.ShortRefIdeal.Read.val_main_v2 (F := Ideal) z (ix3 s ⟨r.val, by omega⟩ l)
      = if h : r.val = 0 then (0 : EReal) else z (ix2 ⟨s.val * 4096 + (r.val - 1), by omega⟩ ⟨2560 + l.val, by omega⟩) := by
    by_cases h : r.val = 0
    · rw [dif_pos h]; exact pad_out z s _ l (Or.inl h)
    · rw [dif_neg h]; exact pad_in z s ⟨r.val, by omega⟩ l (by show 1 ≤ r.val; omega) (by show r.val ≤ 4096; omega)
  have h2 : Cert.ShortRefIdeal.Read.val_main_v2 (F := Ideal) z (ix3 s ⟨2 + r.val, by omega⟩ l)
      = if h : r.val = 4095 then (0 : EReal) else z (ix2 ⟨s.val * 4096 + (r.val + 1), by omega⟩ ⟨2560 + l.val, by omega⟩) := by
    by_cases h : r.val = 4095
    · rw [dif_pos h]; exact pad_out z s _ l (Or.inr (by simp [h]))
    · rw [dif_neg h]
      refine (pad_in z s ⟨2 + r.val, by omega⟩ l (by show 1 ≤ 2 + r.val; omega) (by show 2 + r.val ≤ 4096; omega)).trans ?_
      exact congrArg (fun q => z (ix2 q _)) (Fin.ext (by simp; omega))
  rw [h0, h2]
  refine congrArg (fun q => taps _ q _ _ _ _ _) ?_
  exact congrArg (fun q => z (ix2 q _)) (Fin.ext (by simp))

/-- The columns of a block of part `p` of the three, at an index: rows of the sequence, columns of the part. -/
theorem z0 (c : Dev nD) (t : Fin cfg0.N) (r : Fin 4096) (l : Fin 256) : (iblk m c 0 t : FVec Ideal S4096x256 .f32) (ix2 r l)
    = (m ((c : Thread nD τ).loc main_arg0) : FVec Ideal S16384x7168 .f32) (ix2 ⟨t.val / 2 * 4096 + r.val, by
        have := (idx t).2.2.2.2.2.2.2.2; omega⟩ ⟨2560 + (t.val % 2 * 256 + l.val), by omega⟩) := by
  rw [← V_main_arg0 m c]
  blk_point [iblk, idx t]

theorem z1 (c : Dev nD) (t : Fin cfg0.N) (r : Fin 4096) (l : Fin 256) : (iblk m c 1 t : FVec Ideal S4096x256 .f32) (ix2 r l)
    = (m ((c : Thread nD τ).loc main_arg0) : FVec Ideal S16384x7168 .f32) (ix2 ⟨t.val / 2 * 4096 + r.val, by
        have := (idx t).2.2.2.2.2.2.2.2; omega⟩ ⟨2560 + (512 + (t.val % 2 * 256 + l.val)), by omega⟩) := by
  rw [← V_main_arg0 m c]
  blk_point [iblk, idx t]

theorem z2 (c : Dev nD) (t : Fin cfg0.N) (r : Fin 4096) (l : Fin 256) : (iblk m c 2 t : FVec Ideal S4096x256 .f32) (ix2 r l)
    = (m ((c : Thread nD τ).loc main_arg0) : FVec Ideal S16384x7168 .f32) (ix2 ⟨t.val / 2 * 4096 + r.val, by
        have := (idx t).2.2.2.2.2.2.2.2; omega⟩ ⟨2560 + (1024 + (t.val % 2 * 256 + l.val)), by omega⟩) := by
  rw [← V_main_arg0 m c]
  blk_point [iblk, idx t]

/-- A point's block of the padded weights, for each of the three parts. -/
theorem k0 (c : Dev nD) (t : Fin cfg0.N) (r : Fin 8) (l : Fin 256) : (iblk m c 3 t : FVec Ideal S8x256 .f32) (ix2 r l)
    = (V m c main_v2 : FVec Ideal S8x1536 .f32) (ix2 r ⟨t.val % 2 * 256 + l.val, by omega⟩) := by
  blk_point [iblk, idx t]

theorem k1 (c : Dev nD) (t : Fin cfg0.N) (r : Fin 8) (l : Fin 256) : (iblk m c 4 t : FVec Ideal S8x256 .f32) (ix2 r l)
    = (V m c main_v2 : FVec Ideal S8x1536 .f32) (ix2 r ⟨512 + (t.val % 2 * 256 + l.val), by omega⟩) := by
  blk_point [iblk, idx t]

theorem k2 (c : Dev nD) (t : Fin cfg0.N) (r : Fin 8) (l : Fin 256) : (iblk m c 5 t : FVec Ideal S8x256 .f32) (ix2 r l)
    = (V m c main_v2 : FVec Ideal S8x1536 .f32) (ix2 r ⟨1024 + (t.val % 2 * 256 + l.val), by omega⟩) := by
  blk_point [iblk, idx t]

/-- The kernel's convolution of one block is the reference's of the same columns. -/
theorem conv_blk (c : Dev nD) (x : FVec Ideal S4096x256 .f32) (w : FVec Ideal S8x256 .f32) (s : Fin 4) (q : Fin 256 → Fin 1536)
    (hx : ∀ (r : Fin 4096) (l : Fin 256), x (ix2 r l) = (m ((c : Thread nD τ).loc main_arg0) : FVec Ideal S16384x7168 .f32)
      (ix2 ⟨s.val * 4096 + r.val, by omega⟩ ⟨2560 + (q l).val, by omega⟩))
    (hw : ∀ (r : Fin 8) (l : Fin 256), w (ix2 r l) = (V m c main_v2 : FVec Ideal S8x1536 .f32) (ix2 r (q l)))
    (r : Fin 4096) (l : Fin 256) :
    k0_pay2 (F := Ideal) x w (ix2 r l)
      = Cert.ShortRefIdeal.Read.val_main_v25 (F := Ideal) (m ((c : Thread nD τ).loc main_arg0))
          (m ((c : Thread nD τ).loc main_arg1)) (m ((c : Thread nD τ).loc main_arg2)) (ix3 s r (q l)) := by
  rw [pay_at, conv_edges, hw 0 l, hw 1 l, hw 2 l, hw 3 l, w_taps m c 0 _ (by decide), w_taps m c 1 _ (by decide),
    w_taps m c 2 _ (by decide), w_bias]
  simp only [hx]
  rfl

/-- The gate at an index: the first part of the convolution. -/
theorem refA_at (z : FVec Ideal S16384x7168 .f32) (w : FVec Ideal S3x1536 .f32) (b : FVec Ideal S1536 .f32)
    (s : Fin 4) (r : Fin 4096) (l : Fin 512) :
    refA z w b (ix2 ⟨s.val * 4096 + r.val, by omega⟩ l)
      = Cert.ShortRefIdeal.Read.val_main_v25 (F := Ideal) z w b (ix3 s r ⟨l.val, by omega⟩) := by
  pointwise [refA, Cert.ShortRefIdeal.Read.val_main_v29, Cert.ShortRefIdeal.Read.val_main_v26]

/-- The product at an index: the second part of the convolution times the third. -/
theorem refB_at (z : FVec Ideal S16384x7168 .f32) (w : FVec Ideal S3x1536 .f32) (b : FVec Ideal S1536 .f32)
    (s : Fin 4) (r : Fin 4096) (l : Fin 512) :
    refB z w b (ix2 ⟨s.val * 4096 + r.val, by omega⟩ l)
      = (Cert.ShortRefIdeal.Read.val_main_v25 (F := Ideal) z w b (ix3 s r ⟨512 + l.val, by omega⟩) : EReal)
        * (Cert.ShortRefIdeal.Read.val_main_v25 (F := Ideal) z w b (ix3 s r ⟨1024 + l.val, by omega⟩) : EReal) := by
  pointwise [refB, Cert.ShortRefIdeal.Read.val_main_v31, Cert.ShortRefIdeal.Read.val_main_v30,
    Cert.ShortRefIdeal.Read.val_main_v28, Cert.ShortRefIdeal.Read.val_main_v27]

/-- What a point stores of the gate is the reference's gate where it sits. -/
theorem pointA (c : Dev nD) (t : Fin cfg0.N) (r : Fin 4096) (l : Fin 256) :
    k0_pay2 (F := Ideal) (iblk m c 0 t) (iblk m c 3 t) (ix2 r l)
      = refA (m ((c : Thread nD τ).loc main_arg0)) (m ((c : Thread nD τ).loc main_arg1)) (m ((c : Thread nD τ).loc main_arg2))
          (ix2 ⟨t.val / 2 * 4096 + r.val, by have := (idx t).2.2.2.2.2.2.2.2; omega⟩ ⟨t.val % 2 * 256 + l.val, by omega⟩) := by
  have ht := (idx t).2.2.2.2.2.2.2.2
  refine (conv_blk m c (iblk m c 0 t) (iblk m c 3 t) ⟨t.val / 2, by omega⟩ (fun l => ⟨t.val % 2 * 256 + l.val, by omega⟩)
    (z0 m c t) (k0 m c t) r l).trans ?_
  exact (refA_at _ _ _ ⟨t.val / 2, by omega⟩ r ⟨t.val % 2 * 256 + l.val, by omega⟩).symm

/-- What a point stores of the product is the reference's product where it sits. -/
theorem pointB (c : Dev nD) (t : Fin cfg0.N) (r : Fin 4096) (l : Fin 256) :
    k0_pay1 (F := Ideal) (k0_pay2 (F := Ideal) (iblk m c 1 t) (iblk m c 4 t)) (k0_pay2 (F := Ideal) (iblk m c 2 t) (iblk m c 5 t)) (ix2 r l)
      = refB (m ((c : Thread nD τ).loc main_arg0)) (m ((c : Thread nD τ).loc main_arg1)) (m ((c : Thread nD τ).loc main_arg2))
          (ix2 ⟨t.val / 2 * 4096 + r.val, by have := (idx t).2.2.2.2.2.2.2.2; omega⟩ ⟨t.val % 2 * 256 + l.val, by omega⟩) := by
  have ht := (idx t).2.2.2.2.2.2.2.2
  refine Eq.trans ?_ (refB_at _ _ _ ⟨t.val / 2, by omega⟩ r ⟨t.val % 2 * 256 + l.val, by omega⟩).symm
  exact congrArg₂ (fun a b : EReal => a * b)
    (conv_blk m c (iblk m c 1 t) (iblk m c 4 t) ⟨t.val / 2, by omega⟩ (fun l => ⟨512 + (t.val % 2 * 256 + l.val), by omega⟩)
      (z1 m c t) (k1 m c t) r l)
    (conv_blk m c (iblk m c 2 t) (iblk m c 5 t) ⟨t.val / 2, by omega⟩ (fun l => ⟨1024 + (t.val % 2 * 256 + l.val), by omega⟩)
      (z2 m c t) (k2 m c t) r l)

/-- The value of the gate. -/
theorem finalA (c : Dev nD) : (dats m 0 c).arrAt 6 (cfgs 0).N
    = refA (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  frame_out
  have ht := (idx t).2.2.2.2.2.2.2.2
  have i6 := (idx t).2.2.2.2.2.2.1
  refine ((congrArg _ (eq_ix2 y)).trans (pointA m c t (y 0) (y 1))).trans ?_
  refine congrArg _ (funext fun a => ?_)
  match a with
  | ⟨0, _⟩ => exact Fin.ext (by simp [ix2, i6] <;> omega)
  | ⟨1, _⟩ => exact Fin.ext (by simp [ix2, i6] <;> omega)

/-- The value of the product. -/
theorem finalB (c : Dev nD) : (dats m 0 c).arrAt 7 (cfgs 0).N
    = refB (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  frame_out
  rw [pay5_eq, pay6_eq]
  have ht := (idx t).2.2.2.2.2.2.2.2
  have i7 := (idx t).2.2.2.2.2.2.2.1
  refine ((congrArg _ (eq_ix2 y)).trans (pointB m c t (y 0) (y 1))).trans ?_
  refine congrArg _ (funext fun a => ?_)
  match a with
  | ⟨0, _⟩ => exact Fin.ext (by simp [ix2, i7] <;> omega)
  | ⟨1, _⟩ => exact Fin.ext (by simp [ix2, i7] <;> omega)

end Cert.ShortIdeal.Result

end
-- ==== Proof.lean ====
/-
  The proof of the certificate's claim: for each of the five calls — the retention, the input projection, the merge of the
  branches, the final norm, the short convolution — the frames of the program, of its idealization and of the reference, the idealization itself,
  and the equality of results at the ideal instance.
-/
module

public import proofs.«01_k».proof.Defs
public import proofs.«01_k».proof.Proof.RetBitsFrame
public import proofs.«01_k».proof.Proof.RetFrame
public import proofs.«01_k».proof.Proof.Gen.Proj.Frame
public import proofs.«01_k».proof.Proof.Gen.ProjIdeal.Frame
public import proofs.«01_k».proof.Proof.Gen.Merge.Frame
public import proofs.«01_k».proof.Proof.Gen.MergeIdeal.Frame
public import proofs.«01_k».proof.Proof.Gen.Norm.Frame
public import proofs.«01_k».proof.Proof.Gen.NormIdeal.Frame
public import proofs.«01_k».proof.Proof.Gen.Short.Frame
public import proofs.«01_k».proof.Proof.Gen.ShortIdeal.Frame
public import proofs.«01_k».proof.Proof.Gen.ReferenceIdeal.Run
public import proofs.«01_k».proof.Proof.RetValue
public import proofs.«01_k».proof.Proof.Gen.ProjRefIdeal.Run
public import proofs.«01_k».proof.Proof.ProjValue
public import proofs.«01_k».proof.Proof.Gen.MergeRefIdeal.Run
public import proofs.«01_k».proof.Proof.MergeValue
public import proofs.«01_k».proof.Proof.Gen.NormRefIdeal.Run
public import proofs.«01_k».proof.Proof.NormValue
public import proofs.«01_k».proof.Proof.Gen.ShortRefIdeal.Run
public import proofs.«01_k».proof.Proof.ShortValue
public import Idealize.ShloMosaic.Adequacy
public import Idealize.ShloMosaic.Init

@[expose] public section

noncomputable section

namespace Cert.Proof

open Idealize.ShloMosaic Idealize.SL.Sem

/-- The frame of the reference of the retention: it runs, its arguments are unchanged, every counter ends at zero. -/
theorem frame_ReferenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The frame of the reference of the input projection: it runs, its arguments are unchanged, every counter ends at zero. -/
theorem frame_ProjRefIdeal : Cert.quiescent_ProjRefIdeal := fun m ρ _ =>
  (θ_run Cert.ProjRefIdeal.defs _ _).mono
    (fun r h => ⟨fun c => (h c).2, sem_eq_zero_of_no_sems (by decide) r.2⟩)
    (Cert.ProjRefIdeal.Value.run (F := Ideal) m ρ)

/-- The frame of the reference of the merge: it runs, its arguments are unchanged, every counter ends at zero. -/
theorem frame_MergeRefIdeal : Cert.quiescent_MergeRefIdeal := fun m ρ _ =>
  (θ_run Cert.MergeRefIdeal.defs _ _).mono
    (fun r h => ⟨fun c => (h c).2.2.2, sem_eq_zero_of_no_sems (by decide) r.2⟩)
    (Cert.MergeRefIdeal.Value.run (F := Ideal) m ρ)

/-- The frame of the reference of the final norm: it runs, its arguments are unchanged, every counter ends at zero. -/
theorem frame_NormRefIdeal : Cert.quiescent_NormRefIdeal := fun m ρ _ =>
  (θ_run Cert.NormRefIdeal.defs _ _).mono
    (fun r h => ⟨fun c => (h c).2, sem_eq_zero_of_no_sems (by decide) r.2⟩)
    (Cert.NormRefIdeal.Value.run (F := Ideal) m ρ)

/-- The frame of the reference of the short convolution: it runs, its arguments are unchanged, every counter ends at zero. -/
theorem frame_ShortRefIdeal : Cert.quiescent_ShortRefIdeal := fun m ρ _ =>
  (θ_run Cert.ShortRefIdeal.defs _ _).mono
    (fun r h => ⟨fun c => (h c).2.2, sem_eq_zero_of_no_sems (by decide) r.2⟩)
    (Cert.ShortRefIdeal.Value.run (F := Ideal) m ρ)

/-- The retention's kernel and its reference, at the ideal instance: from equal finite arguments, equal results. -/
theorem algebraic_Kernel : Cert.algebraic_KernelIdeal_ReferenceIdeal_pre_finite_inputs
    (hPre_finite_inputs := Cert.Pre_finite_inputs.facts) := fun m ρ m' ρ' hpre hag =>
  ⟨fun c => Cert.KernelIdeal.Result.ref
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    (θ_run _ _ _).mono (fun _ h c => ⟨(h c).1.trans (Cert.KernelIdeal.Result.final m c (hpre c)), (h c).2.2.2⟩)
      (Cert.KernelIdeal.Ret.run_blocks (F := Ideal) m ρ),
    (θ_run _ _ _).mono (fun _ h c => ⟨(h c).1.trans (by
        obtain ⟨h0, h1, h2, h3, h4⟩ := hag c
        rw [Cert.ReferenceIdeal.Read.val_main_v109_eq, h0, h1, h2, h3, h4]
        rfl), (h c).2⟩)
      (Cert.ReferenceIdeal.Value.run (F := Ideal) m' ρ')⟩

/-- The input projection's kernel and its reference, at the ideal instance: from equal arguments, equal results. -/
theorem algebraic_Proj : Cert.algebraic_ProjIdeal_ProjRefIdeal := fun m ρ m' ρ' _ hag =>
  ⟨fun c => Cert.ProjIdeal.Result.ref
      (m ((c.tc : Thread Cert.ProjIdeal.nD Cert.ProjIdeal.τ).loc Cert.ProjIdeal.main_arg0))
      (m ((c.tc : Thread Cert.ProjIdeal.nD Cert.ProjIdeal.τ).loc Cert.ProjIdeal.main_arg1))
      (m ((c.tc : Thread Cert.ProjIdeal.nD Cert.ProjIdeal.τ).loc Cert.ProjIdeal.main_arg2))
      (m ((c.tc : Thread Cert.ProjIdeal.nD Cert.ProjIdeal.τ).loc Cert.ProjIdeal.main_arg3)),
    (θ_run _ _ _).mono (fun _ h c => ⟨(h c).1.trans (Cert.ProjIdeal.Result.final m c), (h c).2⟩)
      (Cert.ProjIdeal.Value.run_blocks (F := Ideal) m ρ),
    (θ_run _ _ _).mono (fun _ h c => ⟨(h c).1.trans (by
        obtain ⟨h0, h1, h2, h3⟩ := hag c
        rw [h0, h1, h2, h3]
        exact Cert.ProjRefIdeal.Read.val_main_v28_eq (F := Ideal) _ _ _ _), (h c).2⟩)
      (Cert.ProjRefIdeal.Value.run (F := Ideal) m' ρ')⟩

set_option maxHeartbeats 2000000 in
/-- The merge's kernel and its reference, at the ideal instance: from equal arguments, equal results. -/
theorem algebraic_Merge : Cert.algebraic_MergeIdeal_MergeRefIdeal := fun m ρ m' ρ' _ hag =>
  ⟨fun c => Cert.MergeIdeal.Result.refX
        (m ((c.tc : Thread Cert.MergeIdeal.nD Cert.MergeIdeal.τ).loc Cert.MergeIdeal.main_arg0))
        (m ((c.tc : Thread Cert.MergeIdeal.nD Cert.MergeIdeal.τ).loc Cert.MergeIdeal.main_arg1))
        (m ((c.tc : Thread Cert.MergeIdeal.nD Cert.MergeIdeal.τ).loc Cert.MergeIdeal.main_arg2))
        (m ((c.tc : Thread Cert.MergeIdeal.nD Cert.MergeIdeal.τ).loc Cert.MergeIdeal.main_arg3))
        (m ((c.tc : Thread Cert.MergeIdeal.nD Cert.MergeIdeal.τ).loc Cert.MergeIdeal.main_arg4))
        (m ((c.tc : Thread Cert.MergeIdeal.nD Cert.MergeIdeal.τ).loc Cert.MergeIdeal.main_arg5))
        (m ((c.tc : Thread Cert.MergeIdeal.nD Cert.MergeIdeal.τ).loc Cert.MergeIdeal.main_arg6))
        (m ((c.tc : Thread Cert.MergeIdeal.nD Cert.MergeIdeal.τ).loc Cert.MergeIdeal.main_arg7))
        (m ((c.tc : Thread Cert.MergeIdeal.nD Cert.MergeIdeal.τ).loc Cert.MergeIdeal.main_arg8))
        (m ((c.tc : Thread Cert.MergeIdeal.nD Cert.MergeIdeal.τ).loc Cert.MergeIdeal.main_arg9))
        (m ((c.tc : Thread Cert.MergeIdeal.nD Cert.MergeIdeal.τ).loc Cert.MergeIdeal.main_arg10)),
    fun c => Cert.MergeIdeal.Result.refH
        (m ((c.tc : Thread Cert.MergeIdeal.nD Cert.MergeIdeal.τ).loc Cert.MergeIdeal.main_arg0))
        (m ((c.tc : Thread Cert.MergeIdeal.nD Cert.MergeIdeal.τ).loc Cert.MergeIdeal.main_arg1))
        (m ((c.tc : Thread Cert.MergeIdeal.nD Cert.MergeIdeal.τ).loc Cert.MergeIdeal.main_arg2))
        (m ((c.tc : Thread Cert.MergeIdeal.nD Cert.MergeIdeal.τ).loc Cert.MergeIdeal.main_arg3))
        (m ((c.tc : Thread Cert.MergeIdeal.nD Cert.MergeIdeal.τ).loc Cert.MergeIdeal.main_arg4))
        (m ((c.tc : Thread Cert.MergeIdeal.nD Cert.MergeIdeal.τ).loc Cert.MergeIdeal.main_arg5))
        (m ((c.tc : Thread Cert.MergeIdeal.nD Cert.MergeIdeal.τ).loc Cert.MergeIdeal.main_arg6))
        (m ((c.tc : Thread Cert.MergeIdeal.nD Cert.MergeIdeal.τ).loc Cert.MergeIdeal.main_arg7))
        (m ((c.tc : Thread Cert.MergeIdeal.nD Cert.MergeIdeal.τ).loc Cert.MergeIdeal.main_arg8))
        (m ((c.tc : Thread Cert.MergeIdeal.nD Cert.MergeIdeal.τ).loc Cert.MergeIdeal.main_arg9))
        (m ((c.tc : Thread Cert.MergeIdeal.nD Cert.MergeIdeal.τ).loc Cert.MergeIdeal.main_arg10))
        (m ((c.tc : Thread Cert.MergeIdeal.nD Cert.MergeIdeal.τ).loc Cert.MergeIdeal.main_arg11)),
    fun c => Cert.MergeIdeal.Result.refL
        (m ((c.tc : Thread Cert.MergeIdeal.nD Cert.MergeIdeal.τ).loc Cert.MergeIdeal.main_arg0))
        (m ((c.tc : Thread Cert.MergeIdeal.nD Cert.MergeIdeal.τ).loc Cert.MergeIdeal.main_arg1))
        (m ((c.tc : Thread Cert.MergeIdeal.nD Cert.MergeIdeal.τ).loc Cert.MergeIdeal.main_arg2))
        (m ((c.tc : Thread Cert.MergeIdeal.nD Cert.MergeIdeal.τ).loc Cert.MergeIdeal.main_arg3))
        (m ((c.tc : Thread Cert.MergeIdeal.nD Cert.MergeIdeal.τ).loc Cert.MergeIdeal.main_arg4))
        (m ((c.tc : Thread Cert.MergeIdeal.nD Cert.MergeIdeal.τ).loc Cert.MergeIdeal.main_arg5))
        (m ((c.tc : Thread Cert.MergeIdeal.nD Cert.MergeIdeal.τ).loc Cert.MergeIdeal.main_arg6))
        (m ((c.tc : Thread Cert.MergeIdeal.nD Cert.MergeIdeal.τ).loc Cert.MergeIdeal.main_arg7))
        (m ((c.tc : Thread Cert.MergeIdeal.nD Cert.MergeIdeal.τ).loc Cert.MergeIdeal.main_arg8))
        (m ((c.tc : Thread Cert.MergeIdeal.nD Cert.MergeIdeal.τ).loc Cert.MergeIdeal.main_arg9))
        (m ((c.tc : Thread Cert.MergeIdeal.nD Cert.MergeIdeal.τ).loc Cert.MergeIdeal.main_arg10))
        (m ((c.tc : Thread Cert.MergeIdeal.nD Cert.MergeIdeal.τ).loc Cert.MergeIdeal.main_arg11))
        (m ((c.tc : Thread Cert.MergeIdeal.nD Cert.MergeIdeal.τ).loc Cert.MergeIdeal.main_arg12))
        (m ((c.tc : Thread Cert.MergeIdeal.nD Cert.MergeIdeal.τ).loc Cert.MergeIdeal.main_arg13))
        (m ((c.tc : Thread Cert.MergeIdeal.nD Cert.MergeIdeal.τ).loc Cert.MergeIdeal.main_arg14))
        (m ((c.tc : Thread Cert.MergeIdeal.nD Cert.MergeIdeal.τ).loc Cert.MergeIdeal.main_arg15)),
    (θ_run _ _ _).mono (fun _ h c => ⟨(h c).1.trans (Cert.MergeIdeal.Result.finalX m c),
        (h c).2.1.trans (Cert.MergeIdeal.Result.finalH m c), (h c).2.2.1.trans (Cert.MergeIdeal.Result.finalL m c), (h c).2.2.2⟩)
      (Cert.MergeIdeal.Value.run_blocks (F := Ideal) m ρ),
    (θ_run _ _ _).mono (fun _ h c => ⟨(h c).1.trans (by
        obtain ⟨h0, h1, h2, h3, h4, h5, h6, h7, h8, h9, h10, h11, h12, h13, h14, h15⟩ := hag c
        rw [Cert.MergeRefIdeal.Read.val_main_v89_eq, h0, h1, h2, h3, h4, h5, h6, h7, h8, h9, h10]
        rfl),
      (h c).2.1.trans (by
        obtain ⟨h0, h1, h2, h3, h4, h5, h6, h7, h8, h9, h10, h11, h12, h13, h14, h15⟩ := hag c
        rw [Cert.MergeRefIdeal.Read.val_main_v78_eq, h0, h1, h2, h3, h4, h5, h6, h7, h8, h9, h10, h11]
        rfl),
      (h c).2.2.1.trans (by
        obtain ⟨h0, h1, h2, h3, h4, h5, h6, h7, h8, h9, h10, h11, h12, h13, h14, h15⟩ := hag c
        rw [Cert.MergeRefIdeal.Read.val_main_v88_eq, h0, h1, h2, h3, h4, h5, h6, h7, h8, h9, h10, h11, h12, h13, h14, h15]
        rfl), (h c).2.2.2⟩)
      (Cert.MergeRefIdeal.Value.run (F := Ideal) m' ρ')⟩

/-- The final norm's kernel and its reference, at the ideal instance: from equal arguments, equal results. -/
theorem algebraic_Norm : Cert.algebraic_NormIdeal_NormRefIdeal := fun m ρ m' ρ' _ hag =>
  ⟨fun c => Cert.NormIdeal.Result.ref
      (m ((c.tc : Thread Cert.NormIdeal.nD Cert.NormIdeal.τ).loc Cert.NormIdeal.main_arg0))
      (m ((c.tc : Thread Cert.NormIdeal.nD Cert.NormIdeal.τ).loc Cert.NormIdeal.main_arg1)),
    (θ_run _ _ _).mono (fun _ h c => ⟨(h c).1.trans (Cert.NormIdeal.Result.final m c), (h c).2⟩)
      (Cert.NormIdeal.Value.run_blocks (F := Ideal) m ρ),
    (θ_run _ _ _).mono (fun _ h c => ⟨(h c).1.trans (by
        obtain ⟨h0, h1⟩ := hag c
        rw [h0, h1]
        exact Cert.NormRefIdeal.Read.val_main_v14_eq (F := Ideal) _ _), (h c).2⟩)
      (Cert.NormRefIdeal.Value.run (F := Ideal) m' ρ')⟩

/-- The short convolution's kernel and its reference, at the ideal instance: from equal arguments, equal results. -/
theorem algebraic_Short : Cert.algebraic_ShortIdeal_ShortRefIdeal := fun m ρ m' ρ' _ hag =>
  ⟨fun c => Cert.ShortIdeal.Result.refA
        (m ((c.tc : Thread Cert.ShortIdeal.nD Cert.ShortIdeal.τ).loc Cert.ShortIdeal.main_arg0))
        (m ((c.tc : Thread Cert.ShortIdeal.nD Cert.ShortIdeal.τ).loc Cert.ShortIdeal.main_arg1))
        (m ((c.tc : Thread Cert.ShortIdeal.nD Cert.ShortIdeal.τ).loc Cert.ShortIdeal.main_arg2)),
    fun c => Cert.ShortIdeal.Result.refB
        (m ((c.tc : Thread Cert.ShortIdeal.nD Cert.ShortIdeal.τ).loc Cert.ShortIdeal.main_arg0))
        (m ((c.tc : Thread Cert.ShortIdeal.nD Cert.ShortIdeal.τ).loc Cert.ShortIdeal.main_arg1))
        (m ((c.tc : Thread Cert.ShortIdeal.nD Cert.ShortIdeal.τ).loc Cert.ShortIdeal.main_arg2)),
    (θ_run _ _ _).mono (fun _ h c => ⟨(h c).1.trans (Cert.ShortIdeal.Result.finalA m c),
        (h c).2.1.trans (Cert.ShortIdeal.Result.finalB m c), (h c).2.2⟩)
      (Cert.ShortIdeal.Value.run_blocks (F := Ideal) m ρ),
    (θ_run _ _ _).mono (fun _ h c => ⟨(h c).1.trans (by
        obtain ⟨h0, h1, h2⟩ := hag c
        rw [Cert.ShortRefIdeal.Read.val_main_v29_eq, h0, h1, h2]
        rfl),
      (h c).2.1.trans (by
        obtain ⟨h0, h1, h2⟩ := hag c
        rw [Cert.ShortRefIdeal.Read.val_main_v31_eq, h0, h1, h2]
        rfl), (h c).2.2⟩)
      (Cert.ShortRefIdeal.Value.run (F := Ideal) m' ρ')⟩

/-- Everything the certificate states. -/
theorem claim : Cert.Claim :=
  ⟨Cert.Kernel.Gen.facts, Cert.KernelIdeal.Gen.facts, Cert.ReferenceIdeal.Gen.facts, Cert.Proj.Gen.facts,
    Cert.ProjIdeal.Gen.facts, Cert.ProjRefIdeal.Gen.facts, Cert.Merge.Gen.facts, Cert.MergeIdeal.Gen.facts,
    Cert.MergeRefIdeal.Gen.facts, Cert.Norm.Gen.facts, Cert.NormIdeal.Gen.facts, Cert.NormRefIdeal.Gen.facts,
    Cert.Short.Gen.facts, Cert.ShortIdeal.Gen.facts, Cert.ShortRefIdeal.Gen.facts, Cert.Pre_finite_inputs.facts,
    fun m ρ _ => Cert.Kernel.Ret.frame m ρ,
    fun m ρ _ => Cert.KernelIdeal.Ret.frame m ρ,
    fun m ρ _ => Cert.KernelIdeal.Ret.frame m ρ,
    frame_ReferenceIdeal,
    fun m ρ _ => frame_ReferenceIdeal m ρ trivial,
    fun m ρ _ => Cert.Proj.Gen.frame m ρ,
    fun m ρ _ => Cert.ProjIdeal.Gen.frame m ρ,
    frame_ProjRefIdeal,
    fun m ρ _ => Cert.Merge.Gen.frame m ρ,
    fun m ρ _ => Cert.MergeIdeal.Gen.frame m ρ,
    frame_MergeRefIdeal,
    fun m ρ _ => Cert.Norm.Gen.frame m ρ,
    fun m ρ _ => Cert.NormIdeal.Gen.frame m ρ,
    frame_NormRefIdeal,
    fun m ρ _ => Cert.Short.Gen.frame m ρ,
    fun m ρ _ => Cert.ShortIdeal.Gen.frame m ρ,
    frame_ShortRefIdeal,
    trivial,
    algebraic_Kernel,
    trivial,
    algebraic_Proj,
    trivial,
    algebraic_Merge,
    trivial,
    algebraic_Norm,
    trivial,
    algebraic_Short⟩

end Cert.Proof

end
